-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S2x64 : Shape := ⟨2, ![2, 64]⟩
abbrev S1024 : Shape := ⟨1, ![1024]⟩
abbrev S1024x4096 : Shape := ⟨2, ![1024, 4096]⟩
abbrev S2048x4 : Shape := ⟨2, ![2048, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S1x1024 : Shape := ⟨2, ![1, 1024]⟩
abbrev S4x2048 : Shape := ⟨2, ![4, 2048]⟩
abbrev S1x2048 : Shape := ⟨2, ![1, 2048]⟩
abbrev S16x2048 : Shape := ⟨2, ![16, 2048]⟩
abbrev S1x256x1024 : Shape := ⟨3, ![1, 256, 1024]⟩
abbrev S3x2048 : Shape := ⟨2, ![3, 2048]⟩
abbrev S256x2048 : Shape := ⟨2, ![256, 2048]⟩
abbrev S256x16 : Shape := ⟨2, ![256, 16]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩
abbrev S259x2048 : Shape := ⟨2, ![259, 2048]⟩
abbrev S256x96 : Shape := ⟨2, ![256, 96]⟩
abbrev S256x64 : Shape := ⟨2, ![256, 64]⟩
abbrev S4x16 : Shape := ⟨2, ![4, 16]⟩
abbrev S16x4 : Shape := ⟨2, ![16, 4]⟩
abbrev S16x1 : Shape := ⟨2, ![16, 1]⟩

abbrev nBuf : Space → Nat
  | .hbm => 19
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S2x64, .f32⟩
  | .hbm, ⟨2, _⟩ => ⟨S1024, .f32⟩
  | .hbm, ⟨3, _⟩ => ⟨S1024x4096, .f32⟩
  | .hbm, ⟨4, _⟩ => ⟨S2048x4, .f32⟩
  | .hbm, ⟨5, _⟩ => ⟨S2048, .f32⟩
  | .hbm, ⟨6, _⟩ => ⟨S2048x96, .f32⟩
  | .hbm, ⟨7, _⟩ => ⟨S64x2048, .f32⟩
  | .hbm, ⟨8, _⟩ => ⟨S2048, .f32⟩
  | .hbm, ⟨9, _⟩ => ⟨S2048x16, .f32⟩
  | .hbm, ⟨10, _⟩ => ⟨S2048, .f32⟩
  | .hbm, ⟨11, _⟩ => ⟨S2048x1024, .f32⟩
  | .hbm, ⟨12, _⟩ => ⟨S1x1024, .f32⟩
  | .hbm, ⟨13, _⟩ => ⟨S4x2048, .f32⟩
  | .hbm, ⟨14, _⟩ => ⟨S1x2048, .f32⟩
  | .hbm, ⟨15, _⟩ => ⟨S1x2048, .f32⟩
  | .hbm, ⟨16, _⟩ => ⟨S16x2048, .f32⟩
  | .hbm, ⟨17, _⟩ => ⟨S1x2048, .f32⟩
  | .hbm, ⟨18, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x4096, .f32⟩
  | .local _ .vmem, ⟨4, _⟩ => ⟨S4x2048, .f32⟩
  | .local _ .vmem, ⟨5, _⟩ => ⟨S1x2048, .f32⟩
  | .local _ .vmem, ⟨6, _⟩ => ⟨S2048x96, .f32⟩
  | .local _ .vmem, ⟨7, _⟩ => ⟨S64x2048, .f32⟩
  | .local _ .vmem, ⟨8, _⟩ => ⟨S1x2048, .f32⟩
  | .local _ .vmem, ⟨9, _⟩ => ⟨S16x2048, .f32⟩
  | .local _ .vmem, ⟨10, _⟩ => ⟨S1x2048, .f32⟩
  | .local _ .vmem, ⟨11, _⟩ => ⟨S2048x1024, .f32⟩
  | .local _ .vmem, ⟨12, _⟩ => ⟨S1x256x1024, .f32⟩
  | .local _ .vmem, ⟨13, _⟩ => ⟨S1x256x1024, .f32⟩
  | .local _ .vmem, ⟨14, _⟩ => ⟨S16x2048, .f32⟩
  | .local _ .vmem, ⟨15, _⟩ => ⟨S3x2048, .f32⟩
  | .local _ .vmem, ⟨16, _⟩ => ⟨S256x2048, .f32⟩
  | .local _ .vmem, ⟨17, _⟩ => ⟨S256x2048, .f32⟩
  | .local _ .vmem, ⟨18, _⟩ => ⟨S256x16, .f32⟩
  | .local _ .vmem, ⟨19, _⟩ => ⟨S256x16, .f32⟩
  | .local _ .vmem, ⟨20, _⟩ => ⟨S256x2048, .f32⟩
  | .local _ .vmem, ⟨21, _⟩ => ⟨S16x2048, .f32⟩
  | .local _ .vmem, ⟨22, _⟩ => ⟨S256x2048, .f32⟩
  | .local _ .vmem, ⟨23, _⟩ => ⟨S256x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_50 : BitVec 32 := 0#32
  let c64_i32 : BitVec 32 := 64#32
  let v111 : BitVec 32 := Scalar.addi c0_i32_50 c64_i32
  let c1_i32 : BitVec 32 := 1#32
  ⟨c0_i32_50, v111, c1_i32⟩
def k0_off1 (k0_t1 : Fin k0_t1_loop.trips) : Fin 2 → Nat :=
  let c0_i32_50 : BitVec 32 := 0#32
  let c1_i32 : BitVec 32 := 1#32
  let arg24 : BitVec 32 := Scf.iv c0_i32_50 c1_i32 k0_t1
  let c4_i32 : BitVec 32 := 4#32
  let v135 : BitVec 32 := Scalar.muli arg24 c4_i32
  let v136 : Index := Scalar.indexCast v135
  let c0_71 : Index := 0#32
  ![v136.toNat, 0]
def k0_off2 (k0_t1 : Fin k0_t1_loop.trips) (c0_i32_73 : BitVec 32) : Fin 2 → Nat :=
  let c0_i32_50 : BitVec 32 := 0#32
  let c1_i32 : BitVec 32 := 1#32
  let arg24 : BitVec 32 := Scf.iv c0_i32_50 c1_i32 k0_t1
  let c4_i32 : BitVec 32 := 4#32
  let v135 : BitVec 32 := Scalar.muli arg24 c4_i32
  let v142 : BitVec 32 := Scalar.addi v135 c0_i32_73
  let v143 : Index := Scalar.indexCast v142
  let c0_74 : Index := 0#32
  ![v143.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x2048x1024 : Shape := ⟨3, ![2, 2048, 1024]⟩
abbrev S2x64 : Shape := ⟨2, ![2, 64]⟩
abbrev S1024 : Shape := ⟨1, ![1024]⟩
abbrev S1024x4096 : Shape := ⟨2, ![1024, 4096]⟩
abbrev S2048x4 : Shape := ⟨2, ![2048, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4096 : Shape := ⟨3, ![2, 2048, 4096]⟩
abbrev S2x2048x2048 : Shape := ⟨3, ![2, 2048, 2048]⟩
abbrev S2x2051x2048 : Shape := ⟨3, ![2, 2051, 2048]⟩
abbrev S2048x1 : Shape := ⟨2, ![2048, 1]⟩
abbrev S1x1x2048 : Shape := ⟨3, ![1, 1, 2048]⟩
abbrev S2x2048x96 : Shape := ⟨3, ![2, 2048, 96]⟩
abbrev S2x2048x64 : Shape := ⟨3, ![2, 2048, 64]⟩
abbrev S2x2048x16 : Shape := ⟨3, ![2, 2048, 16]⟩
abbrev S2048x2x2048 : Shape := ⟨3, ![2048, 2, 2048]⟩
abbrev S2048x2x16 : Shape := ⟨3, ![2048, 2, 16]⟩
abbrev S1x2x2048 : Shape := ⟨3, ![1, 2, 2048]⟩
abbrev S1x2x16 : Shape := ⟨3, ![1, 2, 16]⟩
abbrev S2x16 : Shape := ⟨2, ![2, 16]⟩
abbrev S1x2048x16 : Shape := ⟨3, ![1, 2048, 16]⟩
abbrev S2x1x16 : Shape := ⟨3, ![2, 1, 16]⟩

abbrev nBuf : Space → Nat
  | .hbm => 175
  | .vmem => 0
  | .smem => 0
  | _ => 0

abbrev hbmTy0_0 (i : Nat) : BufTy := match i % 128 with
  | 0 => ⟨S2x2048x1024, .f32⟩
  | 1 => ⟨S2x64, .f32⟩
  | 2 => ⟨S1024, .f32⟩
  | 3 => ⟨S1024x4096, .f32⟩
  | 4 => ⟨S2048x4, .f32⟩
  | 5 => ⟨S2048, .f32⟩
  | 6 => ⟨S2048x96, .f32⟩
  | 7 => ⟨S64x2048, .f32⟩
  | 8 => ⟨S2048, .f32⟩
  | 9 => ⟨S2048x16, .f32⟩
  | 10 => ⟨S2048, .f32⟩
  | 11 => ⟨S2048x1024, .f32⟩
  | 12 => ⟨S2x2048x1024, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S2x2048x4096, .f32⟩
  | 29 => ⟨S2x2048x2048, .f32⟩
  | 30 => ⟨S2x2048x2048, .f32⟩
  | 31 => ⟨S_, .i32⟩
  | 32 => ⟨S_, .f32⟩
  | 33 => ⟨S2x2051x2048, .f32⟩
  | 34 => ⟨S_, .f32⟩
  | 35 => ⟨S2x2048x2048, .f32⟩
  | 36 => ⟨S2x2048x2048, .f32⟩
  | 37 => ⟨S2048x1, .f32⟩
  | 38 => ⟨S2048, .f32⟩
  | 39 => ⟨S1x1x2048, .f32⟩
  | 40 => ⟨S2x2048x2048, .f32⟩
  | 41 => ⟨S2x2048x2048, .f32⟩
  | 42 => ⟨S2x2048x2048, .f32⟩
  | 43 => ⟨S2x2048x2048, .f32⟩
  | 44 => ⟨S2048x1, .f32⟩
  | 45 => ⟨S2048, .f32⟩
  | 46 => ⟨S1x1x2048, .f32⟩
  | 47 => ⟨S2x2048x2048, .f32⟩
  | 48 => ⟨S2x2048x2048, .f32⟩
  | 49 => ⟨S2x2048x2048, .f32⟩
  | 50 => ⟨S2x2048x2048, .f32⟩
  | 51 => ⟨S2048x1, .f32⟩
  | 52 => ⟨S2048, .f32⟩
  | 53 => ⟨S1x1x2048, .f32⟩
  | 54 => ⟨S2x2048x2048, .f32⟩
  | 55 => ⟨S2x2048x2048, .f32⟩
  | 56 => ⟨S2x2048x2048, .f32⟩
  | 57 => ⟨S2x2048x2048, .f32⟩
  | 58 => ⟨S2048x1, .f32⟩
  | 59 => ⟨S2048, .f32⟩
  | 60 => ⟨S1x1x2048, .f32⟩
  | 61 => ⟨S2x2048x2048, .f32⟩
  | 62 => ⟨S2x2048x2048, .f32⟩
  | 63 => ⟨S2x2048x2048, .f32⟩
  | 64 => ⟨S1x1x2048, .f32⟩
  | 65 => ⟨S2x2048x2048, .f32⟩
  | 66 => ⟨S2x2048x2048, .f32⟩
  | 67 => ⟨S2x2048x2048, .f32⟩
  | 68 => ⟨S2x2048x2048, .f32⟩
  | 69 => ⟨S_, .f32⟩
  | 70 => ⟨S2x2048x2048, .f32⟩
  | 71 => ⟨S2x2048x2048, .f32⟩
  | 72 => ⟨S_, .f32⟩
  | 73 => ⟨S2x2048x2048, .f32⟩
  | 74 => ⟨S2x2048x2048, .f32⟩
  | 75 => ⟨S2x2048x2048, .f32⟩
  | 76 => ⟨S2x2048x96, .f32⟩
  | 77 => ⟨S2x2048x64, .f32⟩
  | 78 => ⟨S2x2048x16, .f32⟩
  | 79 => ⟨S2x2048x16, .f32⟩
  | 80 => ⟨S2x2048x2048, .f32⟩
  | 81 => ⟨S1x1x2048, .f32⟩
  | 82 => ⟨S2x2048x2048, .f32⟩
  | 83 => ⟨S2x2048x2048, .f32⟩
  | 84 => ⟨S_, .f32⟩
  | 85 => ⟨S2x2048x2048, .f32⟩
  | 86 => ⟨S2x2048x2048, .f32⟩
  | 87 => ⟨S2x2048x2048, .f32⟩
  | 88 => ⟨S2x2048x2048, .f32⟩
  | 89 => ⟨S2x2048x2048, .i1⟩
  | 90 => ⟨S2x2048x2048, .f32⟩
  | 91 => ⟨S2x2048x2048, .f32⟩
  | 92 => ⟨S2x2048x2048, .f32⟩
  | 93 => ⟨S2x2048x2048, .f32⟩
  | 94 => ⟨S2x2048x2048, .f32⟩
  | 95 => ⟨S2x2048x2048, .f32⟩
  | 96 => ⟨S2x2048x2048, .f32⟩
  | 97 => ⟨S2x2048x2048, .f32⟩
  | 98 => ⟨S2048x16, .f32⟩
  | 99 => ⟨S2048x16, .f32⟩
  | 100 => ⟨S2048x2x2048, .f32⟩
  | 101 => ⟨S2048x2x16, .f32⟩
  | 102 => ⟨S2048x2x16, .f32⟩
  | 103 => ⟨S2048x2x2048, .f32⟩
  | 104 => ⟨S_, .f32⟩
  | 105 => ⟨S2x2048x16, .f32⟩
  | 106 => ⟨S_, .f32⟩
  | 107 => ⟨S2048x2x2048, .f32⟩
  | 108 => ⟨S_, .i32⟩
  | 109 => ⟨S2048x2x2048, .f32⟩
  | 110 => ⟨S2048x2x16, .f32⟩
  | 111 => ⟨S2048x2x16, .f32⟩
  | 112 => ⟨S2048x2x2048, .f32⟩
  | 113 => ⟨S2048x16, .f32⟩
  | 114 => ⟨S_, .i32⟩
  | 115 => ⟨S2x2048x16, .f32⟩
  | 116 => ⟨S2048x2x2048, .f32⟩
  | 117 => ⟨S_, .i32⟩
  | 118 => ⟨S_, .i1⟩
  | 119 => ⟨S_, .i32⟩
  | 120 => ⟨S_, .i32⟩
  | 121 => ⟨S1x2x2048, .f32⟩
  | 122 => ⟨S2x2048, .f32⟩
  | 123 => ⟨S_, .i32⟩
  | 124 => ⟨S_, .i32⟩
  | 125 => ⟨S1x2x16, .f32⟩
  | 126 => ⟨S2x16, .f32⟩
  | 127 => ⟨S_, .i32⟩
  | _ => ⟨S2x2048x1024, .f32⟩

abbrev hbmTy0_1 (i : Nat) : BufTy := match i % 128 with
  | 0 => ⟨S_, .i32⟩
  | 1 => ⟨S1x2x16, .f32⟩
  | 2 => ⟨S2x16, .f32⟩
  | 3 => ⟨S_, .i32⟩
  | 4 => ⟨S_, .i32⟩
  | 5 => ⟨S1x2x2048, .f32⟩
  | 6 => ⟨S2x2048, .f32⟩
  | 7 => ⟨S2x2048x1, .f32⟩
  | 8 => ⟨S1x2048x16, .f32⟩
  | 9 => ⟨S2x2048x16, .f32⟩
  | 10 => ⟨S2x2048x16, .f32⟩
  | 11 => ⟨S2x2048x16, .f32⟩
  | 12 => ⟨S2x2048x16, .f32⟩
  | 13 => ⟨S2x2048x1, .f32⟩
  | 14 => ⟨S2x1x16, .f32⟩
  | 15 => ⟨S2x2048x16, .f32⟩
  | 16 => ⟨S2x2048x16, .f32⟩
  | 17 => ⟨S2x2048x16, .f32⟩
  | 18 => ⟨S2x2048x1, .f32⟩
  | 19 => ⟨S2x2048x16, .f32⟩
  | 20 => ⟨S2x2048x16, .f32⟩
  | 21 => ⟨S2x2048x16, .f32⟩
  | 22 => ⟨S2x2048x16, .f32⟩
  | 23 => ⟨S2x2048, .f32⟩
  | 24 => ⟨S1x2x2048, .f32⟩
  | 25 => ⟨S_, .i32⟩
  | 26 => ⟨S_, .i32⟩
  | 27 => ⟨S2048x2x2048, .f32⟩
  | 28 => ⟨S_, .i32⟩
  | 29 => ⟨S_, .i32⟩
  | 30 => ⟨S2x2048x2048, .f32⟩
  | 31 => ⟨S1x1x2048, .f32⟩
  | 32 => ⟨S2x2048x2048, .f32⟩
  | 33 => ⟨S2x2048x2048, .f32⟩
  | 34 => ⟨S2x2048x2048, .f32⟩
  | 35 => ⟨S2x2048x2048, .f32⟩
  | 36 => ⟨S2x2048x2048, .f32⟩
  | 37 => ⟨S_, .f32⟩
  | 38 => ⟨S2x2048x2048, .f32⟩
  | 39 => ⟨S2x2048x2048, .f32⟩
  | 40 => ⟨S_, .f32⟩
  | 41 => ⟨S2x2048x2048, .f32⟩
  | 42 => ⟨S2x2048x2048, .f32⟩
  | 43 => ⟨S2x2048x2048, .f32⟩
  | 44 => ⟨S2x2048x2048, .f32⟩
  | 45 => ⟨S2x2048x1024, .f32⟩
  | 46 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_3 : Ref sig .tc := ⟨.hbm, 104, rfl⟩
abbrev main_v65 : Ref sig .tc := ⟨.hbm, 105, rfl⟩
abbrev main_cst_4 : Ref sig .tc := ⟨.hbm, 106, rfl⟩
abbrev main_v66 : Ref sig .tc := ⟨.hbm, 107, rfl⟩
abbrev main_c_5 : Ref sig .tc := ⟨.hbm, 108, rfl⟩
abbrev main_v67_0 : Ref sig .tc := ⟨.hbm, 109, rfl⟩
abbrev main_v67_1 : Ref sig .tc := ⟨.hbm, 110, rfl⟩
abbrev main_v67_2 : Ref sig .tc := ⟨.hbm, 111, rfl⟩
abbrev main_v67_3 : Ref sig .tc := ⟨.hbm, 112, rfl⟩
abbrev main_v67_4 : Ref sig .tc := ⟨.hbm, 113, rfl⟩
abbrev main_v67_5 : Ref sig .tc := ⟨.hbm, 114, rfl⟩
abbrev main_v67_6 : Ref sig .tc := ⟨.hbm, 115, rfl⟩
abbrev main_v67_7 : Ref sig .tc := ⟨.hbm, 116, rfl⟩
abbrev main_while0c_c_13 : Ref sig .tc := ⟨.hbm, 117, rfl⟩
abbrev main_while0c_v77 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_v0 : Ref sig .tc := ⟨.hbm, 121, rfl⟩
abbrev main_while0b_v77 : Ref sig .tc := ⟨.hbm, 122, rfl⟩
abbrev main_while0b_call4_c : Ref sig .tc := ⟨.hbm, 123, rfl⟩
abbrev main_while0b_call4_c_0 : Ref sig .tc := ⟨.hbm, 124, rfl⟩
abbrev main_while0b_call4_v0 : Ref sig .tc := ⟨.hbm, 125, rfl⟩
abbrev main_while0b_v78 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_v0 : Ref sig .tc := ⟨.hbm, 129, rfl⟩
abbrev main_while0b_v79 : Ref sig .tc := ⟨.hbm, 130, rfl⟩
abbrev main_while0b_call6_c : Ref sig .tc := ⟨.hbm, 131, rfl⟩
abbrev main_while0b_call6_c_0 : Ref sig .tc := ⟨.hbm, 132, rfl⟩
abbrev main_while0b_call6_v0 : Ref sig .tc := ⟨.hbm, 133, rfl⟩
abbrev main_while0b_v80 : Ref sig .tc := ⟨.hbm, 134, rfl⟩
abbrev main_while0b_v81 : Ref sig .tc := ⟨.hbm, 135, rfl⟩
abbrev main_while0b_v82 : Ref sig .tc := ⟨.hbm, 136, rfl⟩
abbrev main_while0b_v83 : Ref sig .tc := ⟨.hbm, 137, rfl⟩
abbrev main_while0b_v84 : Ref sig .tc := ⟨.hbm, 138, rfl⟩
abbrev main_while0b_v85 : Ref sig .tc := ⟨.hbm, 139, rfl⟩
abbrev main_while0b_v86 : Ref sig .tc := ⟨.hbm, 140, rfl⟩
abbrev main_while0b_v87 : Ref sig .tc := ⟨.hbm, 141, rfl⟩
abbrev main_while0b_v88 : Ref sig .tc := ⟨.hbm, 142, rfl⟩
abbrev main_while0b_v89 : Ref sig .tc := ⟨.hbm, 143, rfl⟩
abbrev main_while0b_v90 : Ref sig .tc := ⟨.hbm, 144, rfl⟩
abbrev main_while0b_v91 : Ref sig .tc := ⟨.hbm, 145, rfl⟩
abbrev main_while0b_v92 : Ref sig .tc := ⟨.hbm, 146, rfl⟩
abbrev main_while0b_v93 : Ref sig .tc := ⟨.hbm, 147, rfl⟩
abbrev main_while0b_v94 : Ref sig .tc := ⟨.hbm, 148, rfl⟩
abbrev main_while0b_v95 : Ref sig .tc := ⟨.hbm, 149, rfl⟩
abbrev main_while0b_v96 : Ref sig .tc := ⟨.hbm, 150, rfl⟩
abbrev main_while0b_v97 : Ref sig .tc := ⟨.hbm, 151, rfl⟩
abbrev main_while0b_call7_v0 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_v98 : Ref sig .tc := ⟨.hbm, 155, rfl⟩
abbrev main_while0b_c_13 : Ref sig .tc := ⟨.hbm, 156, rfl⟩
abbrev main_while0b_v99 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_call8_v0 : Ref sig .tc := ⟨.hbm, 163, rfl⟩
abbrev main_call8_v1 : Ref sig .tc := ⟨.hbm, 164, rfl⟩
abbrev main_call8_cst : Ref sig .tc := ⟨.hbm, 165, rfl⟩
abbrev main_call8_v2 : Ref sig .tc := ⟨.hbm, 166, rfl⟩
abbrev main_call8_v3 : Ref sig .tc := ⟨.hbm, 167, rfl⟩
abbrev main_call8_cst_0 : Ref sig .tc := ⟨.hbm, 168, rfl⟩
abbrev main_call8_v4 : Ref sig .tc := ⟨.hbm, 169, rfl⟩
abbrev main_call8_v5 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩

abbrev nD : Nat := 1
abbrev τ : Topo := Topo.v7x

variable {F : FTy → Type} [FloatOps F]

abbrev main_while0_count : Scf.Loop 32 := ⟨0#32, 2048#32, 1#32⟩
-- ==== Proof.Scan.Rows.lean ====
module

public import proofs.«01_k».proof.Proof.Gen.KernelIdeal.Loops
public import Idealize.ShloMosaic.Lib.VecWindow
public import Idealize.ShloMosaic.Lib.ValueIdxCore

@[expose] public section

set_option maxRecDepth 16384

/-! What the kernel's inner loop computes. One block of 256 time steps is walked in 64 trips of four steps;
    a step updates the 16 × 2048 state and writes one row of the block's output. The state after `k` trips and the
    rows written are given here as functions of the block's arrays, and shown to be what the loop leaves. -/

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx (ix2)

/-- Row `o` of a block of 256 rows, as a one-row array. -/
def rowAt (G : Vec F S256x2048 .f32) (o : ℕ) : Vec F S1x2048 .f32 := fun y => G (ix2 (Fin.ofNat 256 o) (y 1))

/-- Rows `4k … 4k+3` of a block of 256 rows of 16. -/
def fourRows (B : Vec F S256x16 .f32) (k : ℕ) : Vec F S4x16 .f32 := fun y => B (ix2 (Fin.ofNat 256 (4 * k + (y 0).val)) (y 1))

section
variable (D G : Vec F S256x2048 .f32) (B C : Vec F S256x16 .f32) (A : Vec F S16x2048 .f32)

/-- The state after the first step of trip `k`, from the state `s` before the trip. -/
def state1 (k : ℕ) (s : Vec F S16x2048 .f32) : Vec F S16x2048 .f32 :=
  k0_pay7 s (fourRows B k) (rowAt D (4 * k + 0)) (rowAt G (4 * k + 0)) A
/-- The state after its second step. -/
def state2 (k : ℕ) (s : Vec F S16x2048 .f32) : Vec F S16x2048 .f32 :=
  k0_pay9 (k0_pay5 (fourRows B k)) (state1 D G B A k s) (rowAt D (4 * k + 1)) (rowAt G (4 * k + 1)) A
/-- The state after its third step. -/
def state3 (k : ℕ) (s : Vec F S16x2048 .f32) : Vec F S16x2048 .f32 :=
  k0_pay11 (k0_pay5 (fourRows B k)) (state1 D G B A k s) (rowAt D (4 * k + 1)) (rowAt G (4 * k + 1)) A (rowAt D (4 * k + 2)) (rowAt G (4 * k + 2)) A
/-- The state after its fourth step: what the trip hands to the next. -/
def state4 (k : ℕ) (s : Vec F S16x2048 .f32) : Vec F S16x2048 .f32 :=
  k0_pay1 (k0_pay5 (fourRows B k)) (state3 D G B A k s) (rowAt D (4 * k + 3)) (rowAt G (4 * k + 3)) A

/-- The rows the four steps of trip `k` write. -/
def rowOut (k : ℕ) (s : Vec F S16x2048 .f32) : Fin 4 → Vec F S1x2048 .f32 := ![
  k0_pay8 s (fourRows B k) (fourRows C k) (rowAt D (4 * k + 0)) (rowAt G (4 * k + 0)) A,
  k0_pay10 (k0_pay5 (fourRows B k)) (k0_pay6 (fourRows C k)) (state1 D G B A k s) (rowAt D (4 * k + 1)) (rowAt G (4 * k + 1)) A,
  k0_pay12 (k0_pay5 (fourRows B k)) (k0_pay6 (fourRows C k)) (state1 D G B A k s) (rowAt D (4 * k + 1)) (rowAt G (4 * k + 1)) A
    (rowAt D (4 * k + 2)) (rowAt G (4 * k + 2)) A,
  k0_pay2 (k0_pay5 (fourRows B k)) (k0_pay6 (fourRows C k)) (state3 D G B A k s) (rowAt D (4 * k + 3)) (rowAt G (4 * k + 3)) A]

/-- The state before trip `k`, from the block's starting state `s`. -/
def stateAt (s : Vec F S16x2048 .f32) : ℕ → Vec F S16x2048 .f32
  | 0 => s
  | k + 1 => state4 D G B A k (stateAt s k)

/-- The rows the whole loop writes: row `4k + g` is what step `g` of trip `k` writes. -/
def rowsOut (s : Vec F S16x2048 .f32) : Vec F S256x2048 .f32 := fun y =>
  rowOut D G B C A ((y 0).val / 4) (stateAt D G B A s ((y 0).val / 4)) (Fin.ofNat 4 (y 0).val) (ix2 0 (y 1))
end

/-- A load of one whole row reads that row. -/
theorem readAt_row (v : View sig .tc .vmem S256x2048 .f32) (f : v.ty.Contents (Elt F)) {off : Fin 2 → ℕ} {o : ℕ}
    (inb : ∀ a, off a + S1x2048.size a ≤ S256x2048.size a) (h : off = ![o, 0]) :
    v.readAt (Elt F) (Rect.unit (s := S256x2048) off S1x2048.size inb).toLoadRect f = rowAt (v.read (Elt F) f) o := by
  subst h
  have h0 : o + 1 ≤ 256 := inb 0
  funext y
  refine congrArg (v.read (Elt F) f) (funext fun a => ?_)
  have y0 : (y 0).val < 1 := (y 0).isLt
  match a with
  | ⟨0, _⟩ => exact Fin.ext (show o + 1 * (y 0).val = o % 256 by omega)
  | ⟨1, _⟩ => exact Fin.ext (show 0 + 1 * (y 1).val = (y 1).val by omega)

/-- A load of four whole rows reads them. -/
theorem readAt_four (v : View sig .tc .vmem S256x16 .f32) (f : v.ty.Contents (Elt F)) {off : Fin 2 → ℕ} {k : ℕ}
    (inb : ∀ a, off a + S4x16.size a ≤ S256x16.size a) (h : off = ![4 * k, 0]) :
    v.readAt (Elt F) (Rect.unit (s := S256x16) off S4x16.size inb).toLoadRect f = fourRows (v.read (Elt F) f) k := by
  subst h
  have h0 : 4 * k + 4 ≤ 256 := inb 0
  funext y
  refine congrArg (v.read (Elt F) f) (funext fun a => ?_)
  have y0 : (y 0).val < 4 := (y 0).isLt
  match a with
  | ⟨0, _⟩ => exact Fin.ext (show 4 * k + 1 * (y 0).val = (4 * k + (y 0).val) % 256 by omega)
  | ⟨1, _⟩ => exact Fin.ext (show 0 + 1 * (y 1).val = (y 1).val by omega)

/-- A load of the whole 16 × 2048 array reads it. -/
theorem readAt_state (v : View sig .tc .vmem S16x2048 .f32) (f : v.ty.Contents (Elt F)) {off : Fin 2 → ℕ}
    (inb : ∀ a, off a + (![16, 2048] : Fin 2 → ℕ) a ≤ S16x2048.size a) :
    v.readAt (Elt F) (Rect.unit (s := S16x2048) off ![16, 2048] inb).toLoadRect f = v.read (Elt F) f :=
  View.readAt_full v f inb

theorem off2_0 (k : Fin k0_t1_loop.trips) : k0_off2 k 0#32 = ![4 * k.val + 0, 0] := k0_off2_eq k 0
theorem off2_1 (k : Fin k0_t1_loop.trips) : k0_off2 k 1#32 = ![4 * k.val + 1, 0] := k0_off2_eq k 1
theorem off2_2 (k : Fin k0_t1_loop.trips) : k0_off2 k 2#32 = ![4 * k.val + 2, 0] := k0_off2_eq k 2
theorem off2_3 (k : Fin k0_t1_loop.trips) : k0_off2 k 3#32 = ![4 * k.val + 3, 0] := k0_off2_eq k 3

/-- Four one-row pieces at rows `4k … 4k+3`, over what was there. -/
theorem read_four (v : View sig .tc .vmem S256x2048 .f32) (f : v.ty.Contents (Elt F)) (off : Fin 4 → Fin 2 → ℕ)
    (inb : ∀ g, ∀ a, off g a + S1x2048.size a ≤ S256x2048.size a) (w : Fin 4 → Vec F S1x2048 .f32) (L : List (View.Piece (Elt F) S256x2048 .f32))
    (k : ℕ) (h : ∀ g : Fin 4, off g = ![4 * k + g.val, 0]) (y : S256x2048.Idx) :
    v.read (Elt F) (v.writes (Elt F) f
        ((⟨Rect.unit (s := S256x2048) (off 3) S1x2048.size (inb 3), w 3⟩ : View.Piece (Elt F) S256x2048 .f32)
          :: (⟨Rect.unit (s := S256x2048) (off 2) S1x2048.size (inb 2), w 2⟩ : View.Piece (Elt F) S256x2048 .f32)
          :: (⟨Rect.unit (s := S256x2048) (off 1) S1x2048.size (inb 1), w 1⟩ : View.Piece (Elt F) S256x2048 .f32)
          :: (⟨Rect.unit (s := S256x2048) (off 0) S1x2048.size (inb 0), w 0⟩ : View.Piece (Elt F) S256x2048 .f32) :: L)) y
      = if (y 0).val / 4 = k then w (Fin.ofNat 4 (y 0).val) (ix2 0 (y 1)) else v.read (Elt F) (v.writes (Elt F) f L) y := by
  have out : ∀ (g : Fin 4) (M : List (View.Piece (Elt F) S256x2048 .f32)), (y 0).val ≠ 4 * k + g.val →
      v.read (Elt F) (v.writes (Elt F) f ((⟨Rect.unit (s := S256x2048) (off g) S1x2048.size (inb g), w g⟩ : View.Piece (Elt F) S256x2048 .f32) :: M)) y
        = v.read (Elt F) (v.writes (Elt F) f M) y := fun g M hg =>
    View.read_writes_cons_rows_of_not_mem (W := 1) v f (inb g) (w g) M y (h g) rfl (by omega)
  have inn : ∀ (g : Fin 4) (M : List (View.Piece (Elt F) S256x2048 .f32)), (y 0).val = 4 * k + g.val →
      v.read (Elt F) (v.writes (Elt F) f ((⟨Rect.unit (s := S256x2048) (off g) S1x2048.size (inb g), w g⟩ : View.Piece (Elt F) S256x2048 .f32) :: M)) y
        = w g (ix2 0 (y 1)) := fun g M hg =>
    View.read_writes_cons_rows_of_mem v f (inb g) (w g) M y (ix2 0 (y 1)) (h g) hg rfl
  by_cases hk : (y 0).val / 4 = k
  · rw [if_pos hk]
    obtain ⟨g, hg⟩ : ∃ g : Fin 4, (y 0).val = 4 * k + g.val := ⟨⟨(y 0).val % 4, by omega⟩, by show _ = 4 * k + (y 0).val % 4; omega⟩
    have eg : Fin.ofNat 4 (y 0).val = g := Fin.ext (show (y 0).val % 4 = g.val by omega)
    rw [eg]
    fin_cases g
    · rw [out 3 _ (by simp at hg ⊢; omega), out 2 _ (by simp at hg ⊢; omega), out 1 _ (by simp at hg ⊢; omega)]; exact inn 0 _ hg
    · rw [out 3 _ (by simp at hg ⊢; omega), out 2 _ (by simp at hg ⊢; omega)]; exact inn 1 _ hg
    · rw [out 3 _ (by simp at hg ⊢; omega)]; exact inn 2 _ hg
    · exact inn 3 _ hg
  · rw [if_neg hk, out 3 _ (by omega), out 2 _ (by omega), out 1 _ (by omega), out 0 _ (by omega)]

/-- The loop makes 64 trips. -/
theorem trips_eq : k0_t1_loop.trips = 64 := by decide +kernel

end Cert.KernelIdeal.Scan
-- ==== Proof.Scan.Trip.lean ====
module

public import proofs.«01_k».proof.Proof.Scan.Rows

@[expose] public section

set_option maxRecDepth 16384

/-! The inner loop leaves the state and the rows that `Scan.Rows` describes. -/

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx (ix2)

section
variable (𝒱 : Variants) (c : Dev nD) (bd : Option 𝒱.V) (i : grid0.Coords)
    (arg2 : Memref sig .tc .vmem S1x256x1024 .f32) (harg2 : arg2.IsWhole)
    (arg3 : Memref sig .tc .vmem S1x1024 .f32) (harg3 : arg3.IsWhole)
    (arg4 : Memref sig .tc .vmem S1024x4096 .f32) (harg4 : arg4.IsWhole)
    (arg5 : Memref sig .tc .vmem S4x2048 .f32) (harg5 : arg5.IsWhole)
    (arg6 : Memref sig .tc .vmem S1x2048 .f32) (harg6 : arg6.IsWhole)
    (arg7 : Memref sig .tc .vmem S2048x96 .f32) (harg7 : arg7.IsWhole)
    (arg8 : Memref sig .tc .vmem S64x2048 .f32) (harg8 : arg8.IsWhole)
    (arg9 : Memref sig .tc .vmem S1x2048 .f32) (harg9 : arg9.IsWhole)
    (arg10 : Memref sig .tc .vmem S16x2048 .f32) (harg10 : arg10.IsWhole)
    (arg11 : Memref sig .tc .vmem S1x2048 .f32) (harg11 : arg11.IsWhole)
    (arg12 : Memref sig .tc .vmem S2048x1024 .f32) (harg12 : arg12.IsWhole)
    (arg13 : Memref sig .tc .vmem S1x256x1024 .f32) (harg13 : arg13.IsWhole)
    (arg14 : Memref sig .tc .vmem S16x2048 .f32) (harg14 : arg14.IsWhole)
    (arg15 : Memref sig .tc .vmem S3x2048 .f32) (harg15 : arg15.IsWhole)
    (arg16 : Memref sig .tc .vmem S256x2048 .f32) (harg16 : arg16.IsWhole)
    (arg17 : Memref sig .tc .vmem S256x2048 .f32) (harg17 : arg17.IsWhole)
    (arg18 : Memref sig .tc .vmem S256x16 .f32) (harg18 : arg18.IsWhole)
    (arg19 : Memref sig .tc .vmem S256x16 .f32) (harg19 : arg19.IsWhole)
    (arg20 : Memref sig .tc .vmem S256x2048 .f32) (harg20 : arg20.IsWhole)
    (arg21 : Memref sig .tc .vmem S16x2048 .f32) (harg21 : arg21.IsWhole)
    (arg22 : Memref sig .tc .vmem S256x2048 .f32) (harg22 : arg22.IsWhole)
    (arg23 : Memref sig .tc .vmem S256x2048 .f32) (harg23 : arg23.IsWhole)

  (X16 : arg16.view.ty.Contents (Elt F)) (X17 : arg17.view.ty.Contents (Elt F)) (X18 : arg18.view.ty.Contents (Elt F))
  (X19 : arg19.view.ty.Contents (Elt F)) (X21 : arg21.view.ty.Contents (Elt F))

/-- What trip `k` hands on, from what it is handed. -/
theorem trip_state (k : Fin k0_t1_loop.trips) (s : Vec F S16x2048 .f32) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 0#32 X16 X17 X18 X19 X21 k s
      = state4 (arg16.view.read (Elt F) X16) (arg17.view.read (Elt F) X17) (arg18.view.read (Elt F) X18) (arg21.view.read (Elt F) X21) k s := by
  have e1 := k0_off1_eq k
  unfold tripR_k0_t1 trip_k0_t1
  dsimp only
  unfold trip_k0_t1.sl.r_6 trip_k0_t1.sl.r_2
  unfold trip_k0_t1.sl.r trip_k0_t1.sl.r_3 trip_k0_t1.sl.r_4 trip_k0_t1.sl.r_5
  simp only [readAt_state, readAt_four _ _ _ e1, readAt_row _ _ _ (off2_0 k), readAt_row _ _ _ (off2_1 k), readAt_row _ _ _ (off2_2 k), readAt_row _ _ _ (off2_3 k)]
  rfl

set_option maxHeartbeats 1000000 in
/-- The rows trip `k` writes, over what was there. -/
theorem trip_rows (k : Fin k0_t1_loop.trips) (s : Vec F S16x2048 .f32) (f : arg20.view.ty.Contents (Elt F))
    (L : List (View.Piece (Elt F) S256x2048 .f32)) (y : S256x2048.Idx) :
    arg20.view.read (Elt F) (arg20.view.writes (Elt F) f (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 0#32 X16 X17 X18 X19 X21 k s ++ L)) y
      = if (y 0).val / 4 = k.val then
          rowOut (arg16.view.read (Elt F) X16) (arg17.view.read (Elt F) X17) (arg18.view.read (Elt F) X18) (arg19.view.read (Elt F) X19)
            (arg21.view.read (Elt F) X21) k s (Fin.ofNat 4 (y 0).val) (ix2 0 (y 1))
        else arg20.view.read (Elt F) (arg20.view.writes (Elt F) f L) y := by
  have e1 := k0_off1_eq k
  have e2 := k0_off2_eq k
  refine Eq.trans ?_ (read_four arg20.view f (fun g => k0_off2 k (BitVec.ofNat 32 g.val)) (fun g => k0_off2_inb k g) _ L k.val e2 y)
  unfold tripL_k0_t1 trip_k0_t1
  dsimp only
  unfold trip_k0_t1.sl.r_6 trip_k0_t1.sl.r_2
  unfold trip_k0_t1.sl.r trip_k0_t1.sl.r_1 trip_k0_t1.sl.r_3 trip_k0_t1.sl.r_4 trip_k0_t1.sl.r_5
  simp only [readAt_state, readAt_four _ _ _ e1, readAt_row _ _ _ (off2_0 k), readAt_row _ _ _ (off2_1 k), readAt_row _ _ _ (off2_2 k), readAt_row _ _ _ (off2_3 k)]
  rfl

/-- The loop's state before each trip, and the rows written so far over what was there. -/
theorem loop_spec (s : Vec F S16x2048 .f32) (f : arg20.view.ty.Contents (Elt F)) : ∀ k : ℕ, k ≤ k0_t1_loop.trips →
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 0#32 X16 X17 X18 X19 X21 s k).1
      = stateAt (arg16.view.read (Elt F) X16) (arg17.view.read (Elt F) X17) (arg18.view.read (Elt F) X18) (arg21.view.read (Elt F) X21) s k ∧
    ∀ y : S256x2048.Idx, (y 0).val / 4 < k →
      arg20.view.read (Elt F) (arg20.view.writes (Elt F) f (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 0#32 X16 X17 X18 X19 X21 s k).2) y
        = rowsOut (arg16.view.read (Elt F) X16) (arg17.view.read (Elt F) X17) (arg18.view.read (Elt F) X18) (arg19.view.read (Elt F) X19)
            (arg21.view.read (Elt F) X21) s y := by
  intro k
  induction k with
  | zero => exact fun _ => ⟨st_k0_t1_zero .., fun y hy => absurd hy (Nat.not_lt_zero _)⟩
  | succ k ih =>
    intro hk
    obtain ⟨ih1, ih2⟩ := ih (Nat.le_of_succ_le hk)
    have e := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 0#32 X16 X17 X18 X19 X21 s ⟨k, hk⟩
    refine ⟨?_, fun y hy => ?_⟩
    · rw [e]; dsimp only; rw [trip_state, ih1]; rfl
    · rw [e]; dsimp only; rw [trip_rows, ih1]
      by_cases h : (y 0).val / 4 = k
      · rw [if_pos h]; unfold rowsOut; rw [h]
      · rw [if_neg h]; exact ih2 y (by omega)

/-- What the whole loop leaves: the state after its 64 trips, -/
theorem loop_state (s : Vec F S16x2048 .f32) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 0#32 X16 X17 X18 X19 X21 s (Scf.trips k0_t1_loop.lb k0_t1_loop.ub k0_t1_loop.st)).1
      = stateAt (arg16.view.read (Elt F) X16) (arg17.view.read (Elt F) X17) (arg18.view.read (Elt F) X18) (arg21.view.read (Elt F) X21) s 64 := by
  rw [(loop_spec 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X16 X17 X18 X19 X21 s (arg20.view.junk) _ le_rfl).1]; exact congrArg _ trips_eq

/-- and the rows it wrote, whatever was there before. -/
theorem loop_rows (s : Vec F S16x2048 .f32) (f : arg20.view.ty.Contents (Elt F)) :
    arg20.view.read (Elt F) (arg20.view.writes (Elt F) f (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 0#32 X16 X17 X18 X19 X21 s (Scf.trips k0_t1_loop.lb k0_t1_loop.ub k0_t1_loop.st)).2)
      = rowsOut (arg16.view.read (Elt F) X16) (arg17.view.read (Elt F) X17) (arg18.view.read (Elt F) X18) (arg19.view.read (Elt F) X19)
            (arg21.view.read (Elt F) X21) s := by
  funext y
  have hy : (y 0).val < 256 := (y 0).isLt
  exact (loop_spec 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X16 X17 X18 X19 X21 s f _ le_rfl).2 y (by have := trips_eq; show _ < k0_t1_loop.trips; omega)
end

end Cert.KernelIdeal.Scan
-- ==== Proof.Scan.Block.lean ====
module

public import proofs.«01_k».proof.Proof.Scan.Rows

@[expose] public section

set_option maxRecDepth 16384

/-! What the kernel's body computes at one grid point, as functions of the blocks it is given, of the state `h` and of
    the three rows `r` it carries over from the point before. -/

noncomputable section

namespace Cert.KernelIdeal.Scan

open Cert.KernelIdeal.Gen
open Idealize.ShloMosaic Idealize.ShloMosaic.TcCoe
open Idealize.ShloMosaic.ValueIdx (ix2)

variable {F : FTy → Type} [FloatOps F]

/-- Row `o` of the four rows of convolution weights. -/
def weightRow (w : Vec F S4x2048 .f32) (o : Fin 4) : Vec F S1x2048 .f32 := fun y => w (ix2 o (y 1))

section
variable (x : Vec F S1x256x1024 .f32) (nw : Vec F S1x1024 .f32) (win : Vec F S1024x4096 .f32) (cw : Vec F S4x2048 .f32)
  (cb : Vec F S1x2048 .f32) (wx : Vec F S2048x96 .f32) (wdt : Vec F S64x2048 .f32) (dtb : Vec F S1x2048 .f32)
  (al : Vec F S16x2048 .f32) (dD : Vec F S1x2048 .f32) (wout : Vec F S2048x1024 .f32)
  (h : Vec F S16x2048 .f32) (r : Vec F S3x2048 .f32)

/-- The convolved and activated rows. -/
def bU : FVec F S256x2048 .f32 :=
  k0_pay23 (k0_pay18 x nw win r) (k0_pay20 cb) (k0_pay21 x nw win r) (k0_pay22 (weightRow cw 0)) (weightRow cw 1) (weightRow cw 2) (weightRow cw 3)
/-- Their projection to the step, input and output columns. -/
def bX : FVec F S256x96 .f32 :=
  k0_pay26 (k0_pay18 x nw win r) (k0_pay20 cb) (k0_pay21 x nw win r) (k0_pay22 (weightRow cw 0)) (weightRow cw 1) (weightRow cw 2) (weightRow cw 3) wx
/-- The step sizes before the softplus. -/
def bT : FVec F S256x2048 .f32 :=
  k0_pay27 (k0_pay18 x nw win r) (k0_pay20 cb) (k0_pay21 x nw win r) (k0_pay22 (weightRow cw 0)) (weightRow cw 1) (weightRow cw 2) (weightRow cw 3) wx wdt dtb
/-- The step sizes. -/
def bD : FVec F S256x2048 .f32 := k0_pay30 (bT x nw win cw cb wx wdt dtb r) (Scalar.ofBits .f32 0x00000000#32) k0_pay28
/-- The step sizes times the rows. -/
def bG : FVec F S256x2048 .f32 := k0_pay31 (bU x nw win cw cb r) (bT x nw win cw cb wx wdt dtb r) (Scalar.ofBits .f32 0x00000000#32) k0_pay28
/-- The input columns. -/
def bB : FVec F S256x16 .f32 := k0_pay32 (bX x nw win cw cb wx r)
/-- The output columns. -/
def bC : FVec F S256x16 .f32 := k0_pay33 (bX x nw win cw cb wx r)
/-- The state after the block. -/
def bH : Vec F S16x2048 .f32 :=
  stateAt (bD x nw win cw cb wx wdt dtb r) (bG x nw win cw cb wx wdt dtb r) (bB x nw win cw cb wx r) (k0_pay34 al) h 64
/-- The rows the inner loop writes. -/
def bY : Vec F S256x2048 .f32 :=
  rowsOut (bD x nw win cw cb wx wdt dtb r) (bG x nw win cw cb wx wdt dtb r) (bB x nw win cw cb wx r) (bC x nw win cw cb wx r) (k0_pay34 al) h
/-- The output block. -/
def bOut : Vec F S1x256x1024 .f32 :=
  k0_pay4 (bY x nw win cw cb wx wdt dtb al h r)
    (k0_pay24 (k0_pay18 x nw win r) (k0_pay20 cb) (k0_pay21 x nw win r) (k0_pay22 (weightRow cw 0)) (weightRow cw 1) (weightRow cw 2) (weightRow cw 3))
    dD (k0_pay25 (k0_pay17 x nw win)) x wout
end

/-- A load of one row of the convolution weights reads it. -/
theorem readAt_weight (v : View sig .tc .vmem S4x2048 .f32) (f : v.ty.Contents (Elt F)) {off : Fin 2 → ℕ} (o : Fin 4)
    (inb : ∀ a, off a + S1x2048.size a ≤ S4x2048.size a) (h : off = ![o.val, 0]) :
    v.readAt (Elt F) (Rect.unit (s := S4x2048) off S1x2048.size inb).toLoadRect f = weightRow (v.read (Elt F) f) o := by
  subst h
  funext y
  refine congrArg (v.read (Elt F) f) (funext fun a => ?_)
  have y0 : (y 0).val < 1 := (y 0).isLt
  match a with
  | ⟨0, _⟩ => exact Fin.ext (show o.val + 1 * (y 0).val = o.val by omega)
  | ⟨1, _⟩ => exact Fin.ext (show 0 + 1 * (y 1).val = (y 1).val by omega)

end Cert.KernelIdeal.Scan
-- ==== Proof.Scan.Run.lean ====
module

public import proofs.«01_k».proof.Proof.Scan.Trip
public import proofs.«01_k».proof.Proof.Scan.Block
public import proofs.«01_k».proof.Proof.Gen.KernelIdeal.Frame

@[expose] public section

set_option maxRecDepth 16384

/-! One run of the kernel's body: what it leaves in the output block, the carried state and the carried rows. -/

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The grid point starts a sequence: its second coordinate is zero. -/
abbrev first (i : grid0.Coords) : Prop := (Scalar.cmpi .ne (Scalar.extui (Scalar.cmpi .eq (BitVec.ofNat 32 (i 1).val) 0#32)) 0#32) = 1#1

section
variable (c : Dev nD) (i : grid0.Coords)
    (arg2 : Memref sig .tc .vmem S1x256x1024 .f32) (harg2 : arg2.IsWhole)
    (arg3 : Memref sig .tc .vmem S1x1024 .f32) (harg3 : arg3.IsWhole)
    (arg4 : Memref sig .tc .vmem S1024x4096 .f32) (harg4 : arg4.IsWhole)
    (arg5 : Memref sig .tc .vmem S4x2048 .f32) (harg5 : arg5.IsWhole)
    (arg6 : Memref sig .tc .vmem S1x2048 .f32) (harg6 : arg6.IsWhole)
    (arg7 : Memref sig .tc .vmem S2048x96 .f32) (harg7 : arg7.IsWhole)
    (arg8 : Memref sig .tc .vmem S64x2048 .f32) (harg8 : arg8.IsWhole)
    (arg9 : Memref sig .tc .vmem S1x2048 .f32) (harg9 : arg9.IsWhole)
    (arg10 : Memref sig .tc .vmem S16x2048 .f32) (harg10 : arg10.IsWhole)
    (arg11 : Memref sig .tc .vmem S1x2048 .f32) (harg11 : arg11.IsWhole)
    (arg12 : Memref sig .tc .vmem S2048x1024 .f32) (harg12 : arg12.IsWhole)
    (arg13 : Memref sig .tc .vmem S1x256x1024 .f32) (harg13 : arg13.IsWhole)
    (arg14 : Memref sig .tc .vmem S16x2048 .f32) (harg14 : arg14.IsWhole)
    (arg15 : Memref sig .tc .vmem S3x2048 .f32) (harg15 : arg15.IsWhole)
    (arg16 : Memref sig .tc .vmem S256x2048 .f32) (harg16 : arg16.IsWhole)
    (arg17 : Memref sig .tc .vmem S256x2048 .f32) (harg17 : arg17.IsWhole)
    (arg18 : Memref sig .tc .vmem S256x16 .f32) (harg18 : arg18.IsWhole)
    (arg19 : Memref sig .tc .vmem S256x16 .f32) (harg19 : arg19.IsWhole)
    (arg20 : Memref sig .tc .vmem S256x2048 .f32) (harg20 : arg20.IsWhole)
    (arg21 : Memref sig .tc .vmem S16x2048 .f32) (harg21 : arg21.IsWhole)
    (arg22 : Memref sig .tc .vmem S256x2048 .f32) (harg22 : arg22.IsWhole)
    (arg23 : Memref sig .tc .vmem S256x2048 .f32) (harg23 : arg23.IsWhole)
  (x : Vec F S1x256x1024 .f32) (nw : Vec F S1x1024 .f32) (win : Vec F S1024x4096 .f32) (cw : Vec F S4x2048 .f32)
  (cb : Vec F S1x2048 .f32) (wx : Vec F S2048x96 .f32) (wdt : Vec F S64x2048 .f32) (dtb : Vec F S1x2048 .f32)
  (al : Vec F S16x2048 .f32) (dD : Vec F S1x2048 .f32) (wout : Vec F S2048x1024 .f32)

set_option maxHeartbeats 4000000 in
/-- The body's run at the start of a sequence: from zero state and rows, whatever is carried. -/
theorem run_first (hc : first i) (E : Set ℕ) (K : PUnit → sProp 𝕄) :
  iprop(owns (c : Thread nD τ) arg2 fullShare x ∗ owns (c : Thread nD τ) arg3 fullShare nw ∗ owns (c : Thread nD τ) arg4 fullShare win ∗ owns (c : Thread nD τ) arg5 fullShare cw ∗ owns (c : Thread nD τ) arg6 fullShare cb ∗ owns (c : Thread nD τ) arg7 fullShare wx ∗ owns (c : Thread nD τ) arg8 fullShare wdt ∗ owns (c : Thread nD τ) arg9 fullShare dtb ∗ owns (c : Thread nD τ) arg10 fullShare al ∗ owns (c : Thread nD τ) arg11 fullShare dD ∗ owns (c : Thread nD τ) arg12 fullShare wout
    ∗ (∃ d, owns (c : Thread nD τ) arg13 fullShare d) ∗ (∃ d, owns (c : Thread nD τ) arg14 fullShare d) ∗ (∃ d, owns (c : Thread nD τ) arg15 fullShare d)
    ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
    ∗ (iprop(owns (c : Thread nD τ) arg2 fullShare x ∗ owns (c : Thread nD τ) arg3 fullShare nw ∗ owns (c : Thread nD τ) arg4 fullShare win ∗ owns (c : Thread nD τ) arg5 fullShare cw ∗ owns (c : Thread nD τ) arg6 fullShare cb ∗ owns (c : Thread nD τ) arg7 fullShare wx ∗ owns (c : Thread nD τ) arg8 fullShare wdt ∗ owns (c : Thread nD τ) arg9 fullShare dtb ∗ owns (c : Thread nD τ) arg10 fullShare al ∗ owns (c : Thread nD τ) arg11 fullShare dD ∗ owns (c : Thread nD τ) arg12 fullShare wout
        ∗ owns (c : Thread nD τ) arg13 fullShare (bOut x nw win cw cb wx wdt dtb al dD wout k0_pay13 k0_pay14)
        ∗ owns (c : Thread nD τ) arg14 fullShare (k0_pay3 (bH x nw win cw cb wx wdt dtb al k0_pay13 k0_pay14))
        ∗ owns (c : Thread nD τ) arg15 fullShare (k0_pay19 x nw win)
        ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
   ⊢ wp frame (wpE (defs₀ (F := F)) Variants.none c none) E (cc0_ssm_layer_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ssm_layer_fused_eq_skeleton]; unfold cc0_ssm_layer_fused_skel
  simp only [k0_part5_eq_skeleton, k0_part4_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; rw [View.read_writes_full arg13.view]
    unfold run_first.sl.v116 run_first.sl.v117 run_first.sl.v123
    rw [View.readAt_full arg20.view, loop_rows]
    unfold run_first.sl.HS2_1 run_first.sl.HS3_1 run_first.sl.HS4_1 run_first.sl.HS5_1 run_first.sl.HS7_1 run_first.sl.HS8_1 run_first.sl.HS9_1 run_first.sl.v110 run_first.sl.HS0_1
    rw [View.read_writes_full arg16.view, View.read_writes_full arg17.view, View.read_writes_full arg18.view, View.read_writes_full arg19.view,
      View.read_writes_full arg21.view, View.readCov_full arg22.view, View.readCov_full arg23.view, View.readCov_full arg14.view]
    unfold run_first.sl.r_7 run_first.sl.r_6 run_first.sl.r_5 run_first.sl.r_4 run_first.sl.r_3 run_first.sl.r_2 run_first.sl.r_1 run_first.sl.r run_first.sl.cst_33 run_first.sl.v23 run_first.sl.HS1_1
    rw [View.readAt_full arg11.view, View.readAt_full arg12.view, harg11.read_unread, harg12.read_unread, View.readCov_full arg15.view, View.readAt_full arg2.view, View.readAt_full arg3.view, View.readAt_full arg4.view, readAt_weight arg5.view _ 0 inb_S4x2048_S1x2048_0_0 rfl,
      readAt_weight arg5.view _ 1 inb_S4x2048_S1x2048_1_0 rfl, readAt_weight arg5.view _ 2 inb_S4x2048_S1x2048_2_0 rfl,
      readAt_weight arg5.view _ 3 inb_S4x2048_S1x2048_3_0 rfl, View.readAt_full arg6.view, View.readAt_full arg7.view, View.readAt_full arg8.view,
      View.readAt_full arg9.view, View.readAt_full arg10.view,  harg2.read_unread, harg3.read_unread, harg4.read_unread,
      harg5.read_unread, harg6.read_unread, harg7.read_unread, harg8.read_unread, harg9.read_unread, harg10.read_unread]
    rfl
  isplitl [HS0]
  · iexists _; isplitr; swap; · iexact HS0
    ipureintro; rw [View.read_writes_full arg14.view, loop_state]
    unfold run_first.sl.HS2_1 run_first.sl.HS3_1 run_first.sl.HS4_1 run_first.sl.HS7_1 run_first.sl.v110 run_first.sl.HS0_1
    rw [View.read_writes_full arg16.view, View.read_writes_full arg17.view, View.read_writes_full arg18.view, View.read_writes_full arg21.view, View.readCov_full arg14.view]
    unfold run_first.sl.r_7 run_first.sl.r_6 run_first.sl.r_5 run_first.sl.r_4 run_first.sl.r_3 run_first.sl.r_2 run_first.sl.r_1 run_first.sl.cst_33 run_first.sl.v23 run_first.sl.HS1_1
    rw [View.readCov_full arg15.view, View.readAt_full arg2.view, View.readAt_full arg3.view, View.readAt_full arg4.view, readAt_weight arg5.view _ 0 inb_S4x2048_S1x2048_0_0 rfl,
      readAt_weight arg5.view _ 1 inb_S4x2048_S1x2048_1_0 rfl, readAt_weight arg5.view _ 2 inb_S4x2048_S1x2048_2_0 rfl,
      readAt_weight arg5.view _ 3 inb_S4x2048_S1x2048_3_0 rfl, View.readAt_full arg6.view, View.readAt_full arg7.view, View.readAt_full arg8.view,
      View.readAt_full arg9.view, View.readAt_full arg10.view,  harg2.read_unread, harg3.read_unread, harg4.read_unread,
      harg5.read_unread, harg6.read_unread, harg7.read_unread, harg8.read_unread, harg9.read_unread, harg10.read_unread]
    rfl
  isplitl [HS1]
  · iexists _; isplitr; swap; · iexact HS1
    ipureintro; unfold run_first.sl.HS1_2 run_first.sl.HS1_1; rw [View.read_writes_full arg15.view, View.readAt_full arg2.view, View.readAt_full arg3.view, View.readAt_full arg4.view, harg2.read_unread, harg3.read_unread, harg4.read_unread]
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  iexists _, _; isplitr; swap; · iexact HS9
  ipureintro; rfl

set_option maxHeartbeats 4000000 in
/-- The body's run further on: from the carried state and rows. -/
theorem run_next (h : Vec F S16x2048 .f32) (r : Vec F S3x2048 .f32) (hc : ¬ first i) (E : Set ℕ) (K : PUnit → sProp 𝕄) :
  iprop(owns (c : Thread nD τ) arg2 fullShare x ∗ owns (c : Thread nD τ) arg3 fullShare nw ∗ owns (c : Thread nD τ) arg4 fullShare win ∗ owns (c : Thread nD τ) arg5 fullShare cw ∗ owns (c : Thread nD τ) arg6 fullShare cb ∗ owns (c : Thread nD τ) arg7 fullShare wx ∗ owns (c : Thread nD τ) arg8 fullShare wdt ∗ owns (c : Thread nD τ) arg9 fullShare dtb ∗ owns (c : Thread nD τ) arg10 fullShare al ∗ owns (c : Thread nD τ) arg11 fullShare dD ∗ owns (c : Thread nD τ) arg12 fullShare wout
    ∗ (∃ d, owns (c : Thread nD τ) arg13 fullShare d) ∗ owns (c : Thread nD τ) arg14 fullShare h ∗ owns (c : Thread nD τ) arg15 fullShare r
    ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
    ∗ (iprop(owns (c : Thread nD τ) arg2 fullShare x ∗ owns (c : Thread nD τ) arg3 fullShare nw ∗ owns (c : Thread nD τ) arg4 fullShare win ∗ owns (c : Thread nD τ) arg5 fullShare cw ∗ owns (c : Thread nD τ) arg6 fullShare cb ∗ owns (c : Thread nD τ) arg7 fullShare wx ∗ owns (c : Thread nD τ) arg8 fullShare wdt ∗ owns (c : Thread nD τ) arg9 fullShare dtb ∗ owns (c : Thread nD τ) arg10 fullShare al ∗ owns (c : Thread nD τ) arg11 fullShare dD ∗ owns (c : Thread nD τ) arg12 fullShare wout
        ∗ owns (c : Thread nD τ) arg13 fullShare (bOut x nw win cw cb wx wdt dtb al dD wout h r)
        ∗ owns (c : Thread nD τ) arg14 fullShare (k0_pay3 (bH x nw win cw cb wx wdt dtb al h r))
        ∗ owns (c : Thread nD τ) arg15 fullShare (k0_pay19 x nw win)
        ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
   ⊢ wp frame (wpE (defs₀ (F := F)) Variants.none c none) E (cc0_ssm_layer_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ssm_layer_fused_eq_skeleton]; unfold cc0_ssm_layer_fused_skel
  simp only [k0_part5_eq_skeleton, k0_part4_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; rw [View.read_writes_full arg13.view]
    unfold run_next.sl.v116 run_next.sl.v117 run_next.sl.v123
    rw [View.readAt_full arg20.view, loop_rows]
    unfold run_next.sl.HS2_1 run_next.sl.HS3_1 run_next.sl.HS4_1 run_next.sl.HS5_1 run_next.sl.HS7_1 run_next.sl.HS8_1 run_next.sl.HS9_1 run_next.sl.r_8
    rw [View.read_writes_full arg16.view, View.read_writes_full arg17.view, View.read_writes_full arg18.view, View.read_writes_full arg19.view,
      View.read_writes_full arg21.view, View.readCov_full arg22.view, View.readCov_full arg23.view, View.readAt_full arg14.view, harg14.read_unread]
    unfold run_next.sl.r_7 run_next.sl.r_6 run_next.sl.r_5 run_next.sl.r_4 run_next.sl.r_3 run_next.sl.r_2 run_next.sl.r_1 run_next.sl.r run_next.sl.cst_33
    rw [View.readAt_full arg11.view, View.readAt_full arg12.view, harg11.read_unread, harg12.read_unread, View.readAt_full arg15.view, harg15.read_unread, View.readAt_full arg2.view, View.readAt_full arg3.view, View.readAt_full arg4.view, readAt_weight arg5.view _ 0 inb_S4x2048_S1x2048_0_0 rfl,
      readAt_weight arg5.view _ 1 inb_S4x2048_S1x2048_1_0 rfl, readAt_weight arg5.view _ 2 inb_S4x2048_S1x2048_2_0 rfl,
      readAt_weight arg5.view _ 3 inb_S4x2048_S1x2048_3_0 rfl, View.readAt_full arg6.view, View.readAt_full arg7.view, View.readAt_full arg8.view,
      View.readAt_full arg9.view, View.readAt_full arg10.view,  harg2.read_unread, harg3.read_unread, harg4.read_unread,
      harg5.read_unread, harg6.read_unread, harg7.read_unread, harg8.read_unread, harg9.read_unread, harg10.read_unread]
    rfl
  isplitl [HS0]
  · iexists _; isplitr; swap; · iexact HS0
    ipureintro; rw [View.read_writes_full arg14.view, loop_state]
    unfold run_next.sl.HS2_1 run_next.sl.HS3_1 run_next.sl.HS4_1 run_next.sl.HS7_1 run_next.sl.r_8
    rw [View.read_writes_full arg16.view, View.read_writes_full arg17.view, View.read_writes_full arg18.view, View.read_writes_full arg21.view, View.readAt_full arg14.view, harg14.read_unread]
    unfold run_next.sl.r_7 run_next.sl.r_6 run_next.sl.r_5 run_next.sl.r_4 run_next.sl.r_3 run_next.sl.r_2 run_next.sl.r_1 run_next.sl.cst_33
    rw [View.readAt_full arg15.view, harg15.read_unread, View.readAt_full arg2.view, View.readAt_full arg3.view, View.readAt_full arg4.view, readAt_weight arg5.view _ 0 inb_S4x2048_S1x2048_0_0 rfl,
      readAt_weight arg5.view _ 1 inb_S4x2048_S1x2048_1_0 rfl, readAt_weight arg5.view _ 2 inb_S4x2048_S1x2048_2_0 rfl,
      readAt_weight arg5.view _ 3 inb_S4x2048_S1x2048_3_0 rfl, View.readAt_full arg6.view, View.readAt_full arg7.view, View.readAt_full arg8.view,
      View.readAt_full arg9.view, View.readAt_full arg10.view,  harg2.read_unread, harg3.read_unread, harg4.read_unread,
      harg5.read_unread, harg6.read_unread, harg7.read_unread, harg8.read_unread, harg9.read_unread, harg10.read_unread]
    rfl
  isplitl [HS1]
  · iexists _; isplitr; swap; · iexact HS1
    ipureintro; unfold run_next.sl.HS1_1; rw [View.read_writes_full arg15.view, View.readAt_full arg2.view, View.readAt_full arg3.view, View.readAt_full arg4.view, harg2.read_unread, harg3.read_unread, harg4.read_unread]
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  iexists _, _; isplitr; swap; · iexact HS9
  ipureintro; rfl

end

end Cert.KernelIdeal.Scan
-- ==== Proof.Scan.Launch.lean ====
module

public import Idealize.ShloMosaic.Lib.Claim
public import proofs.«01_k».proof.Proof.Scan.Run
public import proofs.«01_k».proof.Proof.Gen.KernelIdeal.Frame

@[expose] public section

set_option maxRecDepth 16384

/-! The launch: the body run at each of the 16 grid points in turn, the state and three rows carried from one to the next. -/

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scr0 : Memref sig .tc .vmem S16x2048 .f32 := Memref.whole cc0_scratch0
abbrev scr1 : Memref sig .tc .vmem S3x2048 .f32 := Memref.whole cc0_scratch1
abbrev scr2 : Memref sig .tc .vmem S256x2048 .f32 := Memref.whole cc0_scratch2
abbrev scr3 : Memref sig .tc .vmem S256x2048 .f32 := Memref.whole cc0_scratch3
abbrev scr4 : Memref sig .tc .vmem S256x16 .f32 := Memref.whole cc0_scratch4
abbrev scr5 : Memref sig .tc .vmem S256x16 .f32 := Memref.whole cc0_scratch5
abbrev scr6 : Memref sig .tc .vmem S256x2048 .f32 := Memref.whole cc0_scratch6
abbrev scr7 : Memref sig .tc .vmem S16x2048 .f32 := Memref.whole cc0_scratch7
abbrev scr8 : Memref sig .tc .vmem S256x2048 .f32 := Memref.whole cc0_scratch8
abbrev scr9 : Memref sig .tc .vmem S256x2048 .f32 := Memref.whole cc0_scratch9

/-- The point starts a sequence exactly when its number is a multiple of eight. -/
theorem first_iff (t : Fin cfg0.N) : first (grid0.coords t) ↔ t.val % 8 = 0 := by
  have ht : t.val < 16 := Nat.lt_of_lt_of_eq t.isLt N_0
  have e1 : (grid0.coords t 1).val = t.val / 1 % 8 := Pipeline.Grid.coords_val t 1 (by decide) rfl
  simp only [first, e1]
  word_cmp

/-- The state and the rows carried into point `n`. -/
def carried (c : Dev nD) : ℕ → Vec F S16x2048 .f32 × Vec F S3x2048 .f32
  | 0 => (k0_pay13, k0_pay14)
  | n + 1 =>
    if hn : n < cfg0.N then
      let t : Fin cfg0.N := ⟨n, hn⟩
      let s : Vec F S16x2048 .f32 × Vec F S3x2048 .f32 := if n % 8 = 0 then (k0_pay13, k0_pay14) else carried c n
      (k0_pay3 (bH (iblk m c 0 t) (iblk m c 1 t) (iblk m c 2 t) (iblk m c 3 t) (iblk m c 4 t) (iblk m c 5 t) (iblk m c 6 t) (iblk m c 7 t) (iblk m c 8 t) s.1 s.2), k0_pay19 (iblk m c 0 t) (iblk m c 1 t) (iblk m c 2 t))
    else (k0_pay13, k0_pay14)

/-- The state and the rows point `t` works from. -/
def start (c : Dev nD) (n : ℕ) : Vec F S16x2048 .f32 × Vec F S3x2048 .f32 := if n % 8 = 0 then (k0_pay13, k0_pay14) else carried m c n

theorem carried_succ (c : Dev nD) (t : Fin cfg0.N) :
    carried m c (t.val + 1) = (k0_pay3 (bH (iblk m c 0 t) (iblk m c 1 t) (iblk m c 2 t) (iblk m c 3 t) (iblk m c 4 t) (iblk m c 5 t) (iblk m c 6 t) (iblk m c 7 t) (iblk m c 8 t) (start m c t.val).1 (start m c t.val).2), k0_pay19 (iblk m c 0 t) (iblk m c 1 t) (iblk m c 2 t)) := by
  rw [carried, dif_pos t.isLt]; rfl

/-- What is held before point `n`: the carried state and rows (named unless the point starts a sequence), the rest at anything. -/
def held (c : Dev nD) (n : ℕ) : sProp 𝕄 :=
  iprop((∃ h r, ⌜n % 8 ≠ 0 → h = (carried m c n).1 ∧ r = (carried m c n).2⌝ ∗ owns (c : Thread nD τ) scr0 fullShare h ∗ owns (c : Thread nD τ) scr1 fullShare r)
    ∗ ((∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d)) ∗ (∃ g, prngReg c g))

/-- The proof data of the one pipeline: inputs stay, the output block is the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => bOut (iblk m c 0 t) (iblk m c 1 t) (iblk m c 2 t) (iblk m c 3 t) (iblk m c 4 t) (iblk m c 5 t) (iblk m c 6 t) (iblk m c 7 t) (iblk m c 8 t) (iblk m c 9 t) (iblk m c 10 t) (start m c t.val).1 (start m c t.val).2
  Φ t := held m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) :
    (dats m 0 c).after 11 t = bOut (iblk m c 0 t) (iblk m c 1 t) (iblk m c 2 t) (iblk m c 3 t) (iblk m c 4 t) (iblk m c 5 t) (iblk m c 6 t) (iblk m c 7 t) (iblk m c 8 t) (iblk m c 9 t) (iblk m c 10 t) (start m c t.val).1 (start m c t.val).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- The body's run at point `t`, from what the invariant holds. -/
theorem run_point (c : Dev nD) (t : Fin cfg0.N) (h : Vec F S16x2048 .f32) (r : Vec F S3x2048 .f32)
    (hs : t.val % 8 ≠ 0 → h = (carried m c t.val).1 ∧ r = (carried m c t.val).2) (K : PUnit → sProp 𝕄) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t)
      ∗ (∃ d, owns (c : Thread nD τ) (st0_11 t) fullShare d) ∗ owns (c : Thread nD τ) scr0 fullShare h ∗ owns (c : Thread nD τ) scr1 fullShare r
      ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d)
      ∗ (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t)
        ∗ owns (c : Thread nD τ) (st0_11 t) fullShare (bOut (iblk m c 0 t) (iblk m c 1 t) (iblk m c 2 t) (iblk m c 3 t) (iblk m c 4 t) (iblk m c 5 t) (iblk m c 6 t) (iblk m c 7 t) (iblk m c 8 t) (iblk m c 9 t) (iblk m c 10 t) (start m c t.val).1 (start m c t.val).2)
        ∗ owns (c : Thread nD τ) scr0 fullShare (carried m c (t.val + 1)).1 ∗ owns (c : Thread nD τ) scr1 fullShare (carried m c (t.val + 1)).2
        ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d)) -∗ K ⟨⟩))
    ⊢ wp frame (wpE (defs₀ (F := F)) Variants.none c none) Set.univ (bodyAt0 t) K := by
  unfold bodyAt0
  rw [carried_succ]
  by_cases h0 : t.val % 8 = 0
  · have es : start m c t.val = (k0_pay13, k0_pay14) := if_pos h0
    rw [es]
    iintro ⟨H0, H1, H2, H3, H4, H5, H6, H7, H8, H9, H10, H11, HS0, HS1, Hr⟩
    iapply (run_first c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((first_iff t).mpr h0) Set.univ K)
    iframe H0 H1 H2 H3 H4 H5 H6 H7 H8 H9 H10 H11
    isplitl [HS0]
    · iexists _; iexact HS0
    isplitl [HS1]
    · iexists _; iexact HS1
    iexact Hr
  · have es : start m c t.val = (h, r) := (if_neg h0).trans (Prod.ext (hs h0).1.symm (hs h0).2.symm)
    rw [es]
    exact run_next c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) h r (fun hc => h0 ((first_iff t).mp hc)) Set.univ K

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10]
  rw [show (dats m 0 c).owesAt () t.succ = (dats m 0 c).owesAt () t.castSucc from rfl, after_0, after_1, after_2, after_3, after_4, after_5, after_6, after_7, after_8, after_9, after_10, after_11]
  rw [show (dats m 0 c).Φ t.castSucc = held m c t.val from rfl, show (dats m 0 c).Φ t.succ = held m c (t.val + 1) from rfl]
  unfold held
  iintro ⟨⟨⟨%h, %r, %hs, HS0, HS1⟩, ⟨HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_point m c t h r hs _)
  iframe H0 H1 H2 H3 H4 H5 H6 H7 H8 H9 H10 HS0 HS1 HS2 HS3 HS4 HS5 HS6 HS7 HS8 HS9
  isplitl [H11]
  · iexists _; iexact H11
  iintro ⟨H0, H1, H2, H3, H4, H5, H6, H7, H8, H9, H10, H11, HS0, HS1, HS2, HS3, HS4, HS5, HS6, HS7, HS8, HS9⟩
  iframe Hg Ho H0 H1 H2 H3 H4 H5 H6 H7 H8 H9 H10 H11 HS2 HS3 HS4 HS5 HS6 HS7 HS8 HS9
  iexists _, _
  iframe HS0 HS1
  ipureintro
  exact fun _ => ⟨rfl, rfl⟩

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]; exact triple_restated (sound_body m c t) rfl .rfl fun _ => .rfl

/-- The scratch and the generator's register, as the pipeline hands them over. -/
theorem scratch_eq (c : Dev nD) : (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d)) ∗ (∃ g, prngReg c g)) := by
  unfold Pipeline.ΦA; rw [scopedRest0_eq]; simp only [scr0, scr1, scr2, scr3, scr4, scr5, scr6, scr7, scr8, scr9, owns_whole]; try rfl

theorem hin (c : Dev nD) : Pipeline.ΦA spec0 c ⊢ (dats m 0 c).Φ 0 := by
  rw [scratch_eq, show (dats m 0 c).Φ 0 = held m c 0 from rfl]
  unfold held
  iintro ⟨⟨⟨%h, HS0⟩, ⟨%r, HS1⟩, HS2, HS3, HS4, HS5, HS6, HS7, HS8, HS9⟩, Hg⟩
  iframe HS2 HS3 HS4 HS5 HS6 HS7 HS8 HS9 Hg
  iexists h, r
  iframe HS0 HS1
  ipureintro
  exact fun h0 => absurd rfl h0

theorem hout (c : Dev nD) : (dats m 0 c).Φ (Fin.last cfg0.N) ⊢ Pipeline.ΦA spec0 c := by
  rw [scratch_eq, show (dats m 0 c).Φ (Fin.last cfg0.N) = held m c cfg0.N from rfl]
  unfold held
  iintro ⟨⟨%h, %r, %hs, HS0, HS1⟩, ⟨HS2, HS3, HS4, HS5, HS6, HS7, HS8, HS9⟩, Hg⟩
  iframe HS2 HS3 HS4 HS5 HS6 HS7 HS8 HS9 Hg
  isplitl [HS0]
  · iexists _; iexact HS0
  iexists _; iexact HS1

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments are left as they were, and the run ends with nothing owed. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Idealize.ShloMosaic.θ_run_and (frame_of m ρ (dats m) (A_eq m) ((θ_run defs _ _).mono (fun _ h => h.1) (run_main_quiescent m ρ)))
    ((θ_run defs _ _).mono (fun _ h => h.2) (run_main_quiescent m ρ))

end Cert.KernelIdeal.Scan
-- ==== Proof.Scan.Word.lean ====
module

public import proofs.«01_k».proof.Proof.Scan.Launch
public import proofs.«01_k».proof.Defs
public import proofs.«01_k».proof.Proof.Gen.Kernel

@[expose] public section

set_option maxRecDepth 16384

/-! The kernel over words is the same text as the kernel over reals. Its run is that one's, with words for values. -/

noncomputable section

namespace Cert.Kernel

open Idealize.ShloMosaic Idealize.ShloMosaic.TcCoe
variable {F : FTy → Type} [FloatOps F]
attribute [local instance] Cert.Kernel.Gen.facts Cert.KernelIdeal.Gen.facts

/-- The two texts give the body the same meaning. -/
theorem body_eq : defs₀ (F := F) = Cert.KernelIdeal.defs₀ (F := F) := by
  funext p
  cases p
  · funext l a
    match l, a with
    | ⟨0, _⟩, (t, s) =>
      show cc0_ssm_layer_fused .. = KernelIdeal.cc0_ssm_layer_fused ..
      rfl
    | ⟨n + 1, h⟩, _ => exact absurd h (by omega)
  all_goals rfl
/-- … and the pipeline around it. -/
theorem defs_eq : defs (F := F) = Cert.KernelIdeal.defs (F := F) := by
  unfold defs KernelIdeal.defs
  exact congrArg (Pipeline.defs (pcfgs (F := F))) body_eq

/-- … and the host program. -/
theorem main_eq : main (F := F) = Cert.KernelIdeal.main (F := F) := rfl

/-- The kernel over words leaves its arguments unchanged and ends with nothing owed. -/
theorem quiescent : Cert.quiescent_Kernel (hKernel := Cert.Kernel.Gen.facts) := by
  intro m g _
  have h := Cert.KernelIdeal.Scan.quiescent (F := Bits) m g
  rw [← defs_eq, ← main_eq] at h
  exact h

end Cert.Kernel
-- ==== Proof.Math.Layer.lean ====
module

public import Idealize.ShloMosaic.Lib.Pointwise

@[expose] public section

/-! The layer as plain sums and products of extended reals, for one sequence. A sequence is a function from time to
    rows of 1024 numbers; every quantity below is given at a time `l` and a channel. Neither program's tiling appears. -/

noncomputable section

namespace Cert.Layer

open Idealize.ShloMosaic

/-- The layer's weights, read at their coordinates. -/
structure Weights where
  nw : Fin 1024 → EReal
  win : Fin 1024 → Fin 4096 → EReal
  cw : Fin 2048 → Fin 4 → EReal
  cb : Fin 2048 → EReal
  wx : Fin 2048 → Fin 96 → EReal
  wdt : Fin 64 → Fin 2048 → EReal
  dtb : Fin 2048 → EReal
  al : Fin 2048 → Fin 16 → EReal
  dD : Fin 2048 → EReal
  wout : Fin 2048 → Fin 1024 → EReal

/-- The reciprocal root mean square of a row. -/
def rms (x : Fin 1024 → EReal) : EReal :=
  Ideal.rsqrt (Ideal.div (∑ k, x k * x k) (Ideal.ofBits FTy.f32 0x44800000#32) + Ideal.ofBits FTy.f32 0x3727C5AC#32)

/-- `v` times its logistic. -/
def silu (v : EReal) : EReal := v * Ideal.logistic v

/-- The softplus of `v`. -/
def soft (v : EReal) : EReal := max v 0 + Ideal.log1p (Ideal.exp (0 - FloatOps.absf (F := Ideal) (φ := .f32) v))

section
variable (W : Weights) (X : ℕ → Fin 1024 → EReal)

/-- Column `e` of the input projection of a normalized row. -/
def proj (x : Fin 1024 → EReal) (e : Fin 4096) : EReal := ∑ k, x k * rms x * W.nw k * W.win k e

/-- The left half of the projection, three steps late, with zeros before the sequence starts. -/
def past (l : ℕ) (d : Fin 2048) : EReal := if l < 3 then 0 else proj W (X (l - 3)) ⟨d.val, by omega⟩

/-- The causal convolution of four steps. -/
def conv (l : ℕ) (d : Fin 2048) : EReal :=
  W.cb d + past W X l d * W.cw d 0 + past W X (l + 1) d * W.cw d 1 + past W X (l + 2) d * W.cw d 2 + past W X (l + 3) d * W.cw d 3

/-- The activated convolution: what drives the state. -/
def drive (l : ℕ) (d : Fin 2048) : EReal := silu (conv W X l d)

/-- The right half of the projection: the gate. -/
def gate (l : ℕ) (d : Fin 2048) : EReal := proj W (X l) ⟨2048 + d.val, by omega⟩

/-- The 96 columns from which step sizes, input and output columns are cut. -/
def cols (l : ℕ) (e : Fin 96) : EReal := ∑ d, drive W X l d * W.wx d e

/-- The step size. -/
def step (l : ℕ) (d : Fin 2048) : EReal := soft ((∑ k : Fin 64, cols W X l ⟨k.val, by omega⟩ * W.wdt k d) + W.dtb d)

/-- The input column. -/
def inCol (l : ℕ) (n : Fin 16) : EReal := cols W X l ⟨64 + n.val, by omega⟩

/-- The output column. -/
def outCol (l : ℕ) (n : Fin 16) : EReal := cols W X l ⟨80 + n.val, by omega⟩

/-- The state before time `l`. -/
def state : ℕ → Fin 16 → Fin 2048 → EReal
  | 0 => fun _ _ => 0
  | l + 1 => fun n d =>
    Ideal.exp (step W X l d * (0 - Ideal.exp (W.al d n))) * state l n d + inCol W X l n * (step W X l d * drive W X l d)

/-- The state read out at time `l`. -/
def read (l : ℕ) (d : Fin 2048) : EReal := ∑ n, state W X (l + 1) n d * outCol W X l n

/-- The layer's result at time `l`. -/
def out (l : ℕ) (k : Fin 1024) : EReal :=
  X l k + ∑ d, (read W X l d + drive W X l d * W.dD d) * silu (gate W X l d) * W.wout d k
end

/-- The weights held by the ten weight arrays. -/
def weightsOf (a2 : Vec Ideal ⟨1, ![1024]⟩ .f32) (a3 : Vec Ideal ⟨2, ![1024, 4096]⟩ .f32) (a4 : Vec Ideal ⟨2, ![2048, 4]⟩ .f32)
    (a5 : Vec Ideal ⟨1, ![2048]⟩ .f32) (a6 : Vec Ideal ⟨2, ![2048, 96]⟩ .f32) (a7 : Vec Ideal ⟨2, ![64, 2048]⟩ .f32)
    (a8 : Vec Ideal ⟨1, ![2048]⟩ .f32) (a9 : Vec Ideal ⟨2, ![2048, 16]⟩ .f32) (a10 : Vec Ideal ⟨1, ![2048]⟩ .f32)
    (a11 : Vec Ideal ⟨2, ![2048, 1024]⟩ .f32) : Weights where
  nw k := a2 (ix1 k)
  win k e := a3 (ix2 k e)
  cw d k := a4 (ix2 d k)
  cb d := a5 (ix1 d)
  wx d e := a6 (ix2 d e)
  wdt k d := a7 (ix2 k d)
  dtb d := a8 (ix1 d)
  al d n := a9 (ix2 d n)
  dD d := a10 (ix1 d)
  wout d k := a11 (ix2 d k)

/-- Sequence `b` of the input array. -/
def rowsOf (a0 : Vec Ideal ⟨3, ![2, 2048, 1024]⟩ .f32) (b : Fin 2) (l : ℕ) (k : Fin 1024) : EReal := a0 (ix3 b (Fin.ofNat 2048 l) k)

/-- The layer's result array. -/
def result (W : Weights) (a0 : Vec Ideal ⟨3, ![2, 2048, 1024]⟩ .f32) : Vec Ideal ⟨3, ![2, 2048, 1024]⟩ .f32 :=
  fun y => out W (rowsOf a0 (y 0)) (y 1).val (y 2)

end Cert.Layer

end
-- ==== Proof.Scan.BlockValue.lean ====
module

public import proofs.«01_k».proof.Proof.Scan.Block
public import proofs.«01_k».proof.Proof.Math.Layer

@[expose] public section

set_option maxRecDepth 16384

/-! One block of 256 rows over the extended reals. If the block's rows are the sequence's rows from time `L` on, and the
    carried state and rows are the layer's at time `L`, then what the block computes is the layer's at its own times. -/

noncomputable section

namespace Cert.KernelIdeal.Scan

open Cert.KernelIdeal.Gen Cert.Layer
open Idealize.ShloMosaic Idealize.ShloMosaic.TcCoe

variable (W : Weights) (X : ℕ → Fin 1024 → EReal)

section Loop
variable (D G : Vec Ideal S256x2048 .f32) (B C : Vec Ideal S256x16 .f32) (A : Vec Ideal S16x2048 .f32)

/-- One step of the state at row `o`, read at an element. -/
def stepped (o : Fin 256) (s : Vec Ideal S16x2048 .f32) (n : Fin 16) (d : Fin 2048) : EReal :=
  Ideal.exp (D (ix2 o d) * A (ix2 n d)) * s (ix2 n d) + B (ix2 o n) * G (ix2 o d)

theorem state1_apply (k : ℕ) (s : Vec Ideal S16x2048 .f32) (n : Fin 16) (d : Fin 2048) :
    state1 D G B A k s (ix2 n d) = stepped D G B A (Fin.ofNat 256 (4 * k + 0)) s n d := by
  pointwise [state1, k0_pay7, k0_pay5, rowAt, fourRows, stepped, ← ix2_eq_valueIdx]

theorem state2_apply (k : ℕ) (s : Vec Ideal S16x2048 .f32) (n : Fin 16) (d : Fin 2048) :
    state2 D G B A k s (ix2 n d) = stepped D G B A (Fin.ofNat 256 (4 * k + 1)) (state1 D G B A k s) n d := by
  pointwise [state2, k0_pay9, k0_pay5, rowAt, fourRows, stepped, ← ix2_eq_valueIdx]

theorem state3_apply (k : ℕ) (s : Vec Ideal S16x2048 .f32) (n : Fin 16) (d : Fin 2048) :
    state3 D G B A k s (ix2 n d) = stepped D G B A (Fin.ofNat 256 (4 * k + 2)) (state2 D G B A k s) n d := by
  pointwise [state3, state2, k0_pay11, k0_pay5, rowAt, fourRows, stepped, ← ix2_eq_valueIdx]

theorem state4_apply (k : ℕ) (s : Vec Ideal S16x2048 .f32) (n : Fin 16) (d : Fin 2048) :
    state4 D G B A k s (ix2 n d) = stepped D G B A (Fin.ofNat 256 (4 * k + 3)) (state3 D G B A k s) n d := by
  pointwise [state4, k0_pay1, k0_pay5, rowAt, fourRows, stepped, ← ix2_eq_valueIdx]

/-- The row that each step writes: the state after the step, read out by the row's output column. -/
theorem rowOut_apply (k : ℕ) (s : Vec Ideal S16x2048 .f32) (d : Fin 2048) :
    rowOut D G B C A k s 0 (ix2 0 d) = ∑ n, state1 D G B A k s (ix2 n d) * C (ix2 (Fin.ofNat 256 (4 * k + 0)) n)
    ∧ rowOut D G B C A k s 1 (ix2 0 d) = ∑ n, state2 D G B A k s (ix2 n d) * C (ix2 (Fin.ofNat 256 (4 * k + 1)) n)
    ∧ rowOut D G B C A k s 2 (ix2 0 d) = ∑ n, state3 D G B A k s (ix2 n d) * C (ix2 (Fin.ofNat 256 (4 * k + 2)) n)
    ∧ rowOut D G B C A k s 3 (ix2 0 d) = ∑ n, state4 D G B A k s (ix2 n d) * C (ix2 (Fin.ofNat 256 (4 * k + 3)) n) := by
  refine ⟨?_, ?_, ?_, ?_⟩
  · show k0_pay8 s (fourRows B k) (fourRows C k) (rowAt D (4 * k + 0)) (rowAt G (4 * k + 0)) A (ix2 0 d) = _
    pointwise [state1, k0_pay8, k0_pay6, fourRows, ← ix2_eq_valueIdx]
  · show k0_pay10 (k0_pay5 (fourRows B k)) (k0_pay6 (fourRows C k)) (state1 D G B A k s) (rowAt D (4 * k + 1)) (rowAt G (4 * k + 1)) A (ix2 0 d) = _
    pointwise [state2, k0_pay10, k0_pay6, fourRows, ← ix2_eq_valueIdx]
  · show k0_pay12 (k0_pay5 (fourRows B k)) (k0_pay6 (fourRows C k)) (state1 D G B A k s) (rowAt D (4 * k + 1)) (rowAt G (4 * k + 1)) A
      (rowAt D (4 * k + 2)) (rowAt G (4 * k + 2)) A (ix2 0 d) = _
    pointwise [state3, k0_pay12, k0_pay6, fourRows, ← ix2_eq_valueIdx]
  · show k0_pay2 (k0_pay5 (fourRows B k)) (k0_pay6 (fourRows C k)) (state3 D G B A k s) (rowAt D (4 * k + 3)) (rowAt G (4 * k + 3)) A (ix2 0 d) = _
    pointwise [state4, k0_pay2, k0_pay6, fourRows, ← ix2_eq_valueIdx]

variable {D G B C A} {W X} {L : ℕ}
  (hD : ∀ (o : Fin 256) d, D (ix2 o d) = step W X (L + o.val) d)
  (hG : ∀ (o : Fin 256) d, G (ix2 o d) = step W X (L + o.val) d * drive W X (L + o.val) d)
  (hB : ∀ (o : Fin 256) n, B (ix2 o n) = inCol W X (L + o.val) n)
  (hC : ∀ (o : Fin 256) n, C (ix2 o n) = outCol W X (L + o.val) n)
  (hA : ∀ n d, A (ix2 n d) = 0 - Ideal.exp (W.al d n))
include hD hG hB hA

/-- One step at row `p` takes the layer's state at that time to the next time's. -/
theorem stepped_state {p : ℕ} (hp : p < 256) {s : Vec Ideal S16x2048 .f32} (hs : ∀ n d, s (ix2 n d) = state W X (L + p) n d)
    (n : Fin 16) (d : Fin 2048) : stepped D G B A (Fin.ofNat 256 p) s n d = state W X (L + p + 1) n d := by
  have e : (Fin.ofNat 256 p).val = p := Nat.mod_eq_of_lt hp
  rw [stepped, hD, hG, hB, hA, hs, e, state]

/-- The four states of a trip are the layer's at the four times. -/
theorem states_trip {k : ℕ} (hk : k < 64) {s : Vec Ideal S16x2048 .f32} (hs : ∀ n d, s (ix2 n d) = state W X (L + 4 * k) n d) :
    (∀ n d, state1 D G B A k s (ix2 n d) = state W X (L + (4 * k + 0) + 1) n d)
    ∧ (∀ n d, state2 D G B A k s (ix2 n d) = state W X (L + (4 * k + 1) + 1) n d)
    ∧ (∀ n d, state3 D G B A k s (ix2 n d) = state W X (L + (4 * k + 2) + 1) n d)
    ∧ (∀ n d, state4 D G B A k s (ix2 n d) = state W X (L + (4 * k + 3) + 1) n d) := by
  have h1 : ∀ n d, state1 D G B A k s (ix2 n d) = state W X (L + (4 * k + 0) + 1) n d := fun n d =>
    (state1_apply D G B A k s n d).trans (stepped_state hD hG hB hA (by omega) hs n d)
  have h2 : ∀ n d, state2 D G B A k s (ix2 n d) = state W X (L + (4 * k + 1) + 1) n d := fun n d =>
    (state2_apply D G B A k s n d).trans (stepped_state hD hG hB hA (by omega) h1 n d)
  have h3 : ∀ n d, state3 D G B A k s (ix2 n d) = state W X (L + (4 * k + 2) + 1) n d := fun n d =>
    (state3_apply D G B A k s n d).trans (stepped_state hD hG hB hA (by omega) h2 n d)
  exact ⟨h1, h2, h3, fun n d => (state4_apply D G B A k s n d).trans (stepped_state hD hG hB hA (by omega) h3 n d)⟩

/-- The state before trip `k`. -/
theorem stateAt_state {s : Vec Ideal S16x2048 .f32} (hs : ∀ n d, s (ix2 n d) = state W X L n d) :
    ∀ k, k ≤ 64 → ∀ n d, stateAt D G B A s k (ix2 n d) = state W X (L + 4 * k) n d
  | 0, _ => hs
  | k + 1, h => (states_trip hD hG hB hA (by omega) (stateAt_state hs k (by omega))).2.2.2

include hC

/-- The rows the loop writes are the layer's read-outs. -/
theorem rowsOut_read {s : Vec Ideal S16x2048 .f32} (hs : ∀ n d, s (ix2 n d) = state W X L n d) (o : Fin 256) (d : Fin 2048) :
    rowsOut D G B C A s (ix2 o d) = Layer.read W X (L + o.val) d := by
  have ho := o.isLt
  obtain ⟨k, g, hk, e⟩ : ∃ (k : ℕ) (g : Fin 4), k < 64 ∧ o.val = 4 * k + g.val :=
    ⟨o.val / 4, ⟨o.val % 4, by omega⟩, by omega, by show _ = 4 * (o.val / 4) + o.val % 4; omega⟩
  have ek : o.val / 4 = k := by omega
  have eg : Fin.ofNat 4 o.val = g := Fin.ext (show o.val % 4 = g.val by omega)
  have fin : ∀ p, o.val = p → ∀ t : Vec Ideal S16x2048 .f32, (∀ n d, t (ix2 n d) = state W X (L + p + 1) n d) →
      ∑ n, t (ix2 n d) * C (ix2 (Fin.ofNat 256 p) n) = Layer.read W X (L + o.val) d := by
    rintro p rfl t ht
    have eo : Fin.ofNat 256 o.val = o := Fin.ext (Nat.mod_eq_of_lt ho)
    exact Finset.sum_congr rfl fun n _ => by rw [ht, hC, eo]
  show rowOut D G B C A (o.val / 4) (stateAt D G B A s (o.val / 4)) (Fin.ofNat 4 o.val) (ix2 0 d) = _
  rw [ek, eg]
  obtain ⟨s1, s2, s3, s4⟩ := states_trip hD hG hB hA hk (stateAt_state hD hG hB hA hs k (by omega))
  obtain ⟨r1, r2, r3, r4⟩ := rowOut_apply D G B C A k (stateAt D G B A s k) d
  match g, e with
  | 0, e => exact r1.trans (fin _ e _ s1)
  | 1, e => exact r2.trans (fin _ e _ s2)
  | 2, e => exact r3.trans (fin _ e _ s3)
  | 3, e => exact r4.trans (fin _ e _ s4)
end Loop

/-- The kernel's softplus is the layer's: over the extended reals nothing differs from itself. -/
theorem softplus_block (t : FVec Ideal S256x2048 .f32) (o : Fin 256) (d : Fin 2048) :
    k0_pay29 (F := Ideal) t (0 : EReal) k0_pay28 (ix2 o d) = soft (t (ix2 o d)) := by
  pointwise [k0_pay29, k0_pay28]
  rw [if_neg (fun h => h rfl)]
  rfl

section Block
variable (x : Vec Ideal S1x256x1024 .f32) (nw : Vec Ideal S1x1024 .f32) (win : Vec Ideal S1024x4096 .f32) (cw : Vec Ideal S4x2048 .f32)
  (cb : Vec Ideal S1x2048 .f32) (wx : Vec Ideal S2048x96 .f32) (wdt : Vec Ideal S64x2048 .f32) (dtb : Vec Ideal S1x2048 .f32)
  (al : Vec Ideal S16x2048 .f32) (dD : Vec Ideal S1x2048 .f32) (wout : Vec Ideal S2048x1024 .f32)
  (h : Vec Ideal S16x2048 .f32) (r : Vec Ideal S3x2048 .f32)

/-- The block's arrays hold the layer's weights and the sequence's rows from time `L` on. -/
structure Holds (L : ℕ) : Prop where
  x : ∀ (o : Fin 256) k, x (ix3 0 o k) = X (L + o.val) k
  nw : ∀ k, nw (ix2 0 k) = W.nw k
  win : ∀ k e, win (ix2 k e) = W.win k e
  cw : ∀ k d, cw (ix2 k d) = W.cw d k
  cb : ∀ d, cb (ix2 0 d) = W.cb d
  wx : ∀ d e, wx (ix2 d e) = W.wx d e
  wdt : ∀ k d, wdt (ix2 k d) = W.wdt k d
  dtb : ∀ d, dtb (ix2 0 d) = W.dtb d
  al : ∀ n d, al (ix2 n d) = W.al d n
  dD : ∀ d, dD (ix2 0 d) = W.dD d
  wout : ∀ d k, wout (ix2 d k) = W.wout d k

variable {x nw win cw cb wx wdt dtb al dD wout h r} {W X} {L : ℕ} (H : Holds W X x nw win cw cb wx wdt dtb al dD wout L)
  (hr : ∀ (k : Fin 3) d, r (ix2 k d) = past W X (L + k.val) d)
include H

theorem proj_block (o : Fin 256) (e : Fin 4096) : k0_pay15 (F := Ideal) x nw win (ix2 o e) = proj W (X (L + o.val)) e := by
  pointwise [k0_pay15]
  simp only [H.x, H.nw, H.win]
  rfl

theorem gate_block (o : Fin 256) (d : Fin 2048) : k0_pay17 (F := Ideal) x nw win (ix2 o d) = gate W X (L + o.val) d := by
  pointwise [k0_pay17]
  exact proj_block H o _

/-- The rows handed to the next block. -/
theorem carry_block (k : Fin 3) (d : Fin 2048) : k0_pay19 (F := Ideal) x nw win (ix2 k d) = past W X (L + 256 + k.val) d := by
  pointwise [k0_pay19, k0_pay16]
  refine (proj_block H _ _).trans ?_
  rw [past, if_neg (by omega)]
  exact congrArg (fun l => proj W (X l) _) (show L + (253 + k.val) = L + 256 + k.val - 3 by omega)

include hr

/-- The three carried rows and the block's own are the layer's, three steps late. -/
theorem past_block (p : Fin 259) (d : Fin 2048) : k0_pay18 (F := Ideal) x nw win r (ix2 p d) = past W X (L + p.val) d := by
  pointwise [k0_pay18, k0_pay16]
  split
  · exact hr _ d
  · rename_i hp
    have hp : ¬ p.val < 3 := hp
    refine (proj_block H _ _).trans ?_
    rw [past, if_neg (show ¬ L + p.val < 3 by omega)]
    exact congrArg (fun l => proj W (X l) _) (show L + (p.val - 3) = L + p.val - 3 by omega)

theorem drive_block (o : Fin 256) (d : Fin 2048) : bU x nw win cw cb r (ix2 o d) = drive W X (L + o.val) d := by
  pointwise [bU, k0_pay23, k0_pay20, k0_pay21, k0_pay22, weightRow, ← ix2_eq_valueIdx]
  simp only [past_block H hr, H.cw, H.cb]
  rw [drive, silu, conv]
  have e : ∀ c, L + (c + o.val) = L + o.val + c := fun c => by omega
  simp only [e]

theorem cols_block (o : Fin 256) (e : Fin 96) : bX x nw win cw cb wx r (ix2 o e) = cols W X (L + o.val) e := by
  have hu : ∀ d, k0_pay23 (k0_pay18 x nw win r) (k0_pay20 cb) (k0_pay21 x nw win r) (k0_pay22 (weightRow cw 0)) (weightRow cw 1)
      (weightRow cw 2) (weightRow cw 3) (ix2 o d) = drive W X (L + o.val) d := drive_block H hr o
  pointwise [bX, k0_pay26]
  simp only [hu, H.wx]
  rfl

theorem inCol_block (o : Fin 256) (n : Fin 16) : bB x nw win cw cb wx r (ix2 o n) = inCol W X (L + o.val) n := by
  pointwise [bB, k0_pay32]
  exact cols_block H hr o _

theorem outCol_block (o : Fin 256) (n : Fin 16) : bC x nw win cw cb wx r (ix2 o n) = outCol W X (L + o.val) n := by
  pointwise [bC, k0_pay33]
  exact cols_block H hr o _

theorem pre_block (o : Fin 256) (d : Fin 2048) : bT x nw win cw cb wx wdt dtb r (ix2 o d)
    = (∑ k : Fin 64, cols W X (L + o.val) ⟨k.val, by omega⟩ * W.wdt k d) + W.dtb d := by
  have hu : ∀ e, k0_pay26 (k0_pay18 x nw win r) (k0_pay20 cb) (k0_pay21 x nw win r) (k0_pay22 (weightRow cw 0)) (weightRow cw 1)
      (weightRow cw 2) (weightRow cw 3) wx (ix2 o e) = cols W X (L + o.val) e := cols_block H hr o
  pointwise [bT, k0_pay27]
  simp only [hu, H.wdt, H.dtb]

theorem step_block (o : Fin 256) (d : Fin 2048) : bD x nw win cw cb wx wdt dtb r (ix2 o d) = step W X (L + o.val) d := by
  pointwise [bD, k0_pay30]
  rw [softplus_block, pre_block H hr, step]

theorem stepDrive_block (o : Fin 256) (d : Fin 2048) : bG x nw win cw cb wx wdt dtb r (ix2 o d)
    = step W X (L + o.val) d * drive W X (L + o.val) d := by
  pointwise [bG, k0_pay31]
  rw [softplus_block, pre_block H hr, drive_block H hr, step]

omit hr in
theorem rate_block (n : Fin 16) (d : Fin 2048) : k0_pay34 (F := Ideal) al (ix2 n d) = 0 - Ideal.exp (W.al d n) := by
  pointwise [k0_pay34]
  rw [H.al]

variable (hh : ∀ n d, h (ix2 n d) = state W X L n d)
include hh

/-- The state handed to the next block. -/
theorem state_block (n : Fin 16) (d : Fin 2048) :
    k0_pay3 (F := Ideal) (bH x nw win cw cb wx wdt dtb al h r) (ix2 n d) = state W X (L + 256) n d := by
  pointwise [k0_pay3]
  exact stateAt_state (step_block H hr) (stepDrive_block H hr) (inCol_block H hr) (rate_block H) hh 64 (le_refl _) n d

theorem read_block (o : Fin 256) (d : Fin 2048) :
    bY x nw win cw cb wx wdt dtb al h r (ix2 o d) = Layer.read W X (L + o.val) d :=
  rowsOut_read (step_block H hr) (stepDrive_block H hr) (inCol_block H hr) (outCol_block H hr) (rate_block H) hh o d

/-- The output block holds the layer's rows. -/
theorem out_block (o : Fin 256) (k : Fin 1024) :
    bOut x nw win cw cb wx wdt dtb al dD wout h r (ix3 0 o k) = out W X (L + o.val) k := by
  have hu : ∀ d, k0_pay23 (k0_pay18 x nw win r) (k0_pay20 cb) (k0_pay21 x nw win r) (k0_pay22 (weightRow cw 0)) (weightRow cw 1)
      (weightRow cw 2) (weightRow cw 3) (ix2 o d) = drive W X (L + o.val) d := drive_block H hr o
  pointwise [bOut, k0_pay4, k0_pay24, k0_pay25]
  simp only [hu, read_block H hr hh, gate_block H, H.x, H.dD, H.wout]
  rfl

end Block

end Cert.KernelIdeal.Scan
-- ==== Proof.Scan.Array.lean ====
module

public import proofs.«01_k».proof.Proof.Scan.BlockValue
public import proofs.«01_k».proof.Proof.Scan.Launch
public import Idealize.ShloMosaic.Lib.Pipeline.Value
public import Idealize.ShloMosaic.Lib.StableHlo.ReadAt

@[expose] public section

set_option maxRecDepth 16384

/-! What the kernel's result array holds over the extended reals. The blocks' windows are read at their places in the arrays,
    the carried state and rows are followed from block to block of a sequence, and the sixteen output blocks fill the array. -/

noncomputable section

namespace Cert.KernelIdeal.Scan

open Cert.KernelIdeal.Gen Cert.Layer
open Idealize.ShloMosaic Idealize.ShloMosaic.TcCoe Idealize.SL.Sem

variable (m : (ℓ : Loc nD τ sig) → Buf (Elt Ideal) ℓ) (ρ : Dev nD → PrngReg) (c : Dev nD)

/-- The weights at the run's start. -/
def weights : Weights :=
  weightsOf (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)) (m (c.tc.loc main_arg10)) (m (c.tc.loc main_arg11))

/-- Sequence `b` at the run's start. -/
def rows (b : Fin 2) : ℕ → Fin 1024 → EReal := rowsOf (m (c.tc.loc main_arg0)) b

/-! ## Where the windows lie -/

theorem index_io : ∀ t : Fin grid0.N, (win0_0.index t 0 = t.val / 8 ∧ win0_0.index t 1 = t.val % 8 ∧ win0_0.index t 2 = 0)
    ∧ (win0_11.index t 0 = t.val / 8 ∧ win0_11.index t 1 = t.val % 8 ∧ win0_11.index t 2 = 0) := by decide +kernel

theorem index_weights : ∀ (t : Fin grid0.N) (a : Fin 2), win0_1.index t a = 0 ∧ win0_2.index t a = 0 ∧ win0_3.index t a = 0
    ∧ win0_4.index t a = 0 ∧ win0_5.index t a = 0 ∧ win0_6.index t a = 0 ∧ win0_7.index t a = 0 ∧ win0_8.index t a = 0
    ∧ win0_9.index t a = 0 ∧ win0_10.index t a = 0 := by decide +kernel

variable (t : Fin cfg0.N)

/-- The sequence that point `t` works on. -/
def seqOf : Fin 2 := ⟨t.val / 8, by have := t.isLt; have : cfg0.N = 16 := N_0; omega⟩

theorem x_at (o : Fin 256) (k : Fin 1024) :
    (iblk m c 0 t : Vec Ideal S1x256x1024 .f32) (ix3 0 o k) = rows m c (seqOf t) (256 * (t.val % 8) + o.val) k := by
  obtain ⟨⟨e0, e1, e2⟩, -⟩ := index_io t
  have ho := o.isLt
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 8; omega
  | ⟨1, _⟩ => show win0_0.index t 1 * 256 + 1 * o.val = (256 * (t.val % 8) + o.val) % 2048; omega
  | ⟨2, _⟩ => show win0_0.index t 2 * 1024 + 1 * k.val = k.val; omega

/-- An offset that is zero on every axis. -/
theorem offset_zero {n : ℕ} {i sz : Fin n → ℕ} (h : ∀ a, i a = 0) : (fun a => i a * sz a) = fun _ => 0 :=
  funext fun a => by rw [h a, Nat.zero_mul]

/-! A weight window is its whole array. -/
theorem blk1 : (iblk m c 1 t : Vec Ideal S1x1024 .f32) = V m c main_v0 :=
  Memref.read_access_unit_zero (Elt Ideal) main_v0 (offset_zero fun a => (index_weights t a).1) _ _
theorem blk2 : (iblk m c 2 t : Vec Ideal S1024x4096 .f32) = V m c main_arg3 :=
  Memref.read_access_unit_zero (Elt Ideal) main_arg3 (offset_zero fun a => (index_weights t a).2.1) _ _
theorem blk3 : (iblk m c 3 t : Vec Ideal S4x2048 .f32) = V m c main_v1 :=
  Memref.read_access_unit_zero (Elt Ideal) main_v1 (offset_zero fun a => (index_weights t a).2.2.1) _ _
theorem blk4 : (iblk m c 4 t : Vec Ideal S1x2048 .f32) = V m c main_v2 :=
  Memref.read_access_unit_zero (Elt Ideal) main_v2 (offset_zero fun a => (index_weights t a).2.2.2.1) _ _
theorem blk5 : (iblk m c 5 t : Vec Ideal S2048x96 .f32) = V m c main_arg6 :=
  Memref.read_access_unit_zero (Elt Ideal) main_arg6 (offset_zero fun a => (index_weights t a).2.2.2.2.1) _ _
theorem blk6 : (iblk m c 6 t : Vec Ideal S64x2048 .f32) = V m c main_arg7 :=
  Memref.read_access_unit_zero (Elt Ideal) main_arg7 (offset_zero fun a => (index_weights t a).2.2.2.2.2.1) _ _
theorem blk7 : (iblk m c 7 t : Vec Ideal S1x2048 .f32) = V m c main_v3 :=
  Memref.read_access_unit_zero (Elt Ideal) main_v3 (offset_zero fun a => (index_weights t a).2.2.2.2.2.2.1) _ _
theorem blk8 : (iblk m c 8 t : Vec Ideal S16x2048 .f32) = V m c main_v4 :=
  Memref.read_access_unit_zero (Elt Ideal) main_v4 (offset_zero fun a => (index_weights t a).2.2.2.2.2.2.2.1) _ _
theorem blk9 : (iblk m c 9 t : Vec Ideal S1x2048 .f32) = V m c main_v5 :=
  Memref.read_access_unit_zero (Elt Ideal) main_v5 (offset_zero fun a => (index_weights t a).2.2.2.2.2.2.2.2.1) _ _
theorem blk10 : (iblk m c 10 t : Vec Ideal S2048x1024 .f32) = V m c main_arg11 :=
  Memref.read_access_unit_zero (Elt Ideal) main_arg11 (offset_zero fun a => (index_weights t a).2.2.2.2.2.2.2.2.2) _ _

/-! The six arrays the host prepares are re-indexings of arguments. -/
theorem V0_at (k : Fin 1024) : V m c main_v0 (ix2 (0 : Fin 1) k) = m (c.tc.loc main_arg2) (ix1 k) := by
  unfold V
  after_reads_at
theorem V1_at (k : Fin 4) (d : Fin 2048) : V m c main_v1 (ix2 k d) = m (c.tc.loc main_arg4) (ix2 d k) := by
  unfold V
  after_reads_at
theorem V2_at (d : Fin 2048) : V m c main_v2 (ix2 (0 : Fin 1) d) = m (c.tc.loc main_arg5) (ix1 d) := by
  unfold V
  after_reads_at
theorem V3_at (d : Fin 2048) : V m c main_v3 (ix2 (0 : Fin 1) d) = m (c.tc.loc main_arg8) (ix1 d) := by
  unfold V
  after_reads_at
theorem V4_at (n : Fin 16) (d : Fin 2048) : V m c main_v4 (ix2 n d) = m (c.tc.loc main_arg9) (ix2 d n) := by
  unfold V
  after_reads_at
theorem V5_at (d : Fin 2048) : V m c main_v5 (ix2 (0 : Fin 1) d) = m (c.tc.loc main_arg10) (ix1 d) := by
  unfold V
  after_reads_at

/-- Point `t`'s windows hold the weights and the rows of its sequence from its time on. -/
theorem holds : Holds (weights m c) (rows m c (seqOf t)) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (256 * (t.val % 8)) where
  x := x_at m c t
  nw k := (congrFun (blk1 m c t) _).trans (V0_at m c k)
  win k e := (congrFun (blk2 m c t) _).trans (congrFun (V_main_arg3 m c) _)
  cw k d := (congrFun (blk3 m c t) _).trans (V1_at m c k d)
  cb d := (congrFun (blk4 m c t) _).trans (V2_at m c d)
  wx d e := (congrFun (blk5 m c t) _).trans (congrFun (V_main_arg6 m c) _)
  wdt k d := (congrFun (blk6 m c t) _).trans (congrFun (V_main_arg7 m c) _)
  dtb d := (congrFun (blk7 m c t) _).trans (V3_at m c d)
  al n d := (congrFun (blk8 m c t) _).trans (V4_at m c n d)
  dD d := (congrFun (blk9 m c t) _).trans (V5_at m c d)
  wout d k := (congrFun (blk10 m c t) _).trans (congrFun (V_main_arg11 m c) _)

/-! ## From block to block -/

/-- The state and rows a point starts from are the layer's at its time. -/
theorem start_at : ∀ (n : ℕ) (hn : n < cfg0.N),
    (∀ i d, (start m c n).1 (ix2 i d) = state (weights m c) (rows m c (seqOf ⟨n, hn⟩)) (256 * (n % 8)) i d)
    ∧ (∀ (k : Fin 3) d, (start m c n).2 (ix2 k d) = past (weights m c) (rows m c (seqOf ⟨n, hn⟩)) (256 * (n % 8) + k.val) d) := by
  intro n
  induction n with
  | zero =>
    intro hn
    rw [start, if_pos rfl]
    exact ⟨fun i d => by pointwise [k0_pay13]; rfl, fun k d => by
      rw [past, if_pos (show 256 * (0 % 8) + k.val < 3 by have := k.isLt; omega)]
      pointwise [k0_pay14]⟩
  | succ p ih =>
    intro hn
    by_cases h8 : (p + 1) % 8 = 0
    · rw [start, if_pos h8, h8]
      exact ⟨fun i d => by pointwise [k0_pay13]; rfl, fun k d => by
        rw [past, if_pos (show 256 * 0 + k.val < 3 by have := k.isLt; omega)]
        pointwise [k0_pay14]⟩
    · have hp : p < cfg0.N := by omega
      obtain ⟨hh, hr⟩ := ih hp
      have es : seqOf ⟨p + 1, hn⟩ = seqOf ⟨p, hp⟩ := Fin.ext (show (p + 1) / 8 = p / 8 by omega)
      have et : 256 * ((p + 1) % 8) = 256 * (p % 8) + 256 := by omega
      have H := holds m c ⟨p, hp⟩
      rw [start, if_neg h8, carried_succ m c ⟨p, hp⟩, es, et]
      exact ⟨fun i d => state_block H hr hh i d, fun k d => carry_block H k d⟩

/-! ## The array -/

/-- The layer's result array. -/
def res : Vec Ideal S2x2048x1024 .f32 := result (weights m c) (m (c.tc.loc main_arg0))

theorem flushed_at : (dats m 0 c).flushed 11 t = ((cfg0.win 11).blk t).view.read (Elt Ideal) (res m c) := by
  obtain ⟨-, e0, e1, e2⟩ := index_io t
  show (cfg0.win 11).cut (grid0.coords t) ((dats m 0 c).after 11 t) = _
  rw [after_11]
  obtain ⟨hh, hr⟩ := start_at m c t.val t.isLt
  funext y
  obtain ⟨p, o, k, rfl⟩ : ∃ (p : Fin 1) (o : Fin 256) (k : Fin 1024), y = ix3 p o k := ⟨y 0, y 1, y 2, eq_ix3 y⟩
  obtain rfl : p = 0 := Subsingleton.elim _ _
  refine (out_block (holds m c t) hr hh o k).trans ?_
  have ho := o.isLt
  have hN : cfg0.N = 16 := N_0
  have ht := t.isLt
  have e : (((cfg0.win 11).blk t).view.emb (ix3 (0 : Fin 1) o k) : S2x2048x1024.Idx)
      = ix3 (seqOf t) (⟨256 * (t.val % 8) + o.val, by omega⟩ : Fin 2048) k := by
    funext a
    apply Fin.ext
    match a with
    | ⟨0, _⟩ => show win0_11.index t 0 * 1 + 1 * 0 = t.val / 8; omega
    | ⟨1, _⟩ => show win0_11.index t 1 * 256 + 1 * o.val = 256 * (t.val % 8) + o.val; omega
    | ⟨2, _⟩ => show win0_11.index t 2 * 1024 + 1 * k.val = k.val; omega
  rw [View.read_apply]
  exact (congrArg (res m c) e).symm

/-- The result array ends at the layer's result. -/
theorem array_at : (dats m 0 c).arrAt 11 cfg0.N = res m c :=
  (dats m 0 c).arrAt_eq_of_cover 11 (res m c) (fun t _ => flushed_at m c t) fun i => by
    have h0 : (i 0 : ℕ) < 2 := (i 0).isLt
    have h1 : (i 1 : ℕ) < 2048 := (i 1).isLt
    have h2 : (i 2 : ℕ) < 1024 := (i 2).isLt
    have hN : cfg0.N = 16 := N_0
    obtain ⟨t, ht⟩ : ∃ t : Fin cfg0.N, t.val = 8 * (i 0 : ℕ) + (i 1 : ℕ) / 256 := ⟨⟨8 * (i 0 : ℕ) + (i 1 : ℕ) / 256, by omega⟩, rfl⟩
    obtain ⟨-, e0, e1, e2⟩ := index_io t
    refine ⟨t, flush0_11 t, ?_⟩
    show i ∈ ((View.whole main_v6).slice (win0_11.rect t)).set
    rw [View.set_slice_whole, Rect.mem_set_unit]
    intro a
    match a with
    | ⟨0, _⟩ => show win0_11.index t 0 * 1 ≤ (i 0 : ℕ) ∧ (i 0 : ℕ) < win0_11.index t 0 * 1 + 1; omega
    | ⟨1, _⟩ => show win0_11.index t 1 * 256 ≤ (i 1 : ℕ) ∧ (i 1 : ℕ) < win0_11.index t 1 * 256 + 256; omega
    | ⟨2, _⟩ => show win0_11.index t 2 * 1024 ≤ (i 2 : ℕ) ∧ (i 2 : ℕ) < win0_11.index t 2 * 1024 + 1024; omega

/-- The kernel's run: its result is the layer's, and it leaves its arguments as they were. -/
theorem run : θ_run defs (onTc (τ := τ) (main (F := Ideal))) ⟨m, fun _ => 0, ρ⟩ fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h.1.1 c).1 11).trans (array_at m c), h.2.1 c⟩)
    (Idealize.ShloMosaic.θ_run_and (run_main_quiescent m ρ) (quiescent m ρ))

end Cert.KernelIdeal.Scan
-- ==== Proof.Ref.Keep.lean ====
module

public import proofs.«01_k».proof.Proof.Gen.ReferenceIdeal.Run
public import proofs.«01_k».proof.Defs
public import proofs.«01_k».proof.Proof.Gen.ReferenceIdeal
public import Idealize.ShloMosaic.Lib.Quiescent

@[expose] public section

set_option maxRecDepth 16384

/-! The reference's arguments through its run: no operation, before, in or after the loop, writes one. -/

noncomputable section

namespace Cert.ReferenceIdeal.Hand

open Cert.ReferenceIdeal.Gen Cert.ReferenceIdeal.Value
open Idealize.ShloMosaic Idealize.ShloMosaic.TcCoe Idealize.ShloMosaic.StableHlo Idealize.SL.Sem

variable {F : FTy → Type} [FloatOps F]

/-- What the operations after the loop write. -/
abbrev writtenLast : List (Ref sig .tc) :=
  [main_v68, main_v69, main_v70, main_v71, main_v72, main_call8_v0, main_call8_v1, main_call8_cst, main_call8_v2, main_call8_v3,
    main_call8_cst_0, main_call8_v4, main_call8_v5, main_v73, main_v74, main_v75, main_v76]

/-- What the run writes, stretch by stretch: before the loop, … -/
abbrev writtenFirst : List (Ref sig .tc) :=
  hostOps0_W ++ (hostOps0_1_W ++ (hostOps0_2_W ++ (hostOps0_3_W ++ (hostOps0_4_W ++ (hostOps0_5_W ++ hostOps0_6_W)))))

/-- … in a trip. -/
abbrev writtenTrip : List (Ref sig .tc) :=
  condOps_W ++ (while0Ops0_W ++ (while0Ops0_1_W ++ (while0Ops0_2_W ++ (while0Ops0_3_W ++ (while0Ops0_4_W ++ (while0Ops0_5_W ++ while0Ops0_6_W))))))

/-- A buffer no stretch before the loop writes is at the loop as launched. -/
theorem entry_keep (m : (ℓ : Loc nD τ sig) → Buf (Elt F) ℓ) (c : Dev nD) (b : Ref sig .tc) (h : b ∉ writtenFirst) :
    entryContents preI m c (Proc.devRef .tc b) = m ((c.tc : Thread nD τ).loc b) := by
  simp only [writtenFirst, List.mem_append, not_or] at h
  obtain ⟨h0, h1, h2, h3, h4, h5, h6⟩ := h
  simp only [entryContents, afterL_cons, afterL_nil]
  rw [after_of_writes_sub _ _ hostOps0_6_writes h6, after_of_writes_sub _ _ hostOps0_5_writes h5, after_of_writes_sub _ _ hostOps0_4_writes h4,
    after_of_writes_sub _ _ hostOps0_3_writes h3, after_of_writes_sub _ _ hostOps0_2_writes h2, after_of_writes_sub _ _ hostOps0_1_writes h1,
    after_of_writes_sub _ _ hostOps0_writes h0]

/-- A buffer no trip writes is as at the loop's entry before every trip. -/
theorem trips_keep (W : Dev nD → Valuation τ sig (Elt F)) (c : Dev nD) (b : Ref sig .tc) (h : b ∉ writtenTrip) :
    ∀ k, atTrip condOps bodyI W k c (Proc.devRef .tc b) = W c (Proc.devRef .tc b)
  | 0 => rfl
  | k + 1 => by
    have hk := trips_keep W c b h k
    simp only [writtenTrip, List.mem_append, not_or] at h
    obtain ⟨hc, h0, h1, h2, h3, h4, h5, h6⟩ := h
    rw [atTrip_succ]
    simp only [afterL_cons, afterL_nil]
    rw [after_of_writes_sub _ _ while0Ops0_6_writes h6, after_of_writes_sub _ _ while0Ops0_5_writes h5, after_of_writes_sub _ _ while0Ops0_4_writes h4,
      after_of_writes_sub _ _ while0Ops0_3_writes h3, after_of_writes_sub _ _ while0Ops0_2_writes h2, after_of_writes_sub _ _ while0Ops0_1_writes h1,
      after_of_writes_sub _ _ while0Ops0_writes h0, after_of_writes_sub _ _ condOps_writes hc, hk]

/-- A buffer neither a trip nor the last condition writes is at the loop's exit as at its entry. -/
theorem exit_keep (W : Dev nD → Valuation τ sig (Elt F)) (c : Dev nD) (b : Ref sig .tc) (h : b ∉ writtenTrip) (k : ℕ) :
    after condOps (atTrip condOps bodyI W k c) (Proc.devRef .tc b) = W c (Proc.devRef .tc b) := by
  have hc : b ∉ condOps_W := fun hb => h (List.mem_append_left _ hb)
  rw [after_of_writes_sub _ _ condOps_writes hc, trips_keep W c b h k]

theorem last_writes7 : (hostOps0_7 : List (HloOp τ sig (Elt F))).Forall fun op => op.writes ⊆ (writtenLast.map (Proc.devRef (τ := τ) .tc)).toFinset :=
  (forall_writes_sub_of_map (W := [main_v68, main_v69, main_v70, main_v71, main_v72]) rfl).imp fun _ h =>
    h.trans (by decide)

theorem last_writes8 : (hostOps0_8 : List (HloOp τ sig (Elt F))).Forall fun op => op.writes ⊆ (writtenLast.map (Proc.devRef (τ := τ) .tc)).toFinset :=
  (forall_writes_sub_of_map (W := [main_call8_v0, main_call8_v1, main_call8_cst, main_call8_v2, main_call8_v3,
    main_call8_cst_0, main_call8_v4, main_call8_v5, main_v73]) rfl).imp fun _ h => h.trans (by decide)

theorem last_writes9 : (hostOps0_9 : List (HloOp τ sig (Elt F))).Forall fun op => op.writes ⊆ (writtenLast.map (Proc.devRef (τ := τ) .tc)).toFinset :=
  (forall_writes_sub_of_map (W := [main_v74, main_v75, main_v76]) rfl).imp fun _ h => h.trans (by decide)

/-- An argument ends as launched. -/
theorem final_keep (m : (ℓ : Loc nD τ sig) → Buf (Elt F) ℓ) (c : Dev nD) (b : Ref sig .tc)
    (hf : b ∉ writtenFirst) (ht : b ∉ writtenTrip) (hl : b ∉ writtenLast) :
    finalContents condOps preI bodyI postI 2048 m c (Proc.devRef .tc b) = m ((c.tc : Thread nD τ).loc b) := by
  simp only [finalContents, postI, afterL_cons, afterL_nil]
  rw [after_of_writes_sub _ _ last_writes9 hl, after_of_writes_sub _ _ last_writes8 hl, after_of_writes_sub _ _ last_writes7 hl,
    exit_keep _ c b ht 2048, entry_keep m c b hf]

/-- The reference leaves its arguments unchanged, at a named result, and ends with nothing owed. -/
theorem args_keep (m : (ℓ : Loc nD τ sig) → Buf (Elt F) ℓ) (r : PUnit × MemSt nD τ sig (Elt F))
    (h : ∀ (c : Dev nD) (b : Ref sig .tc), (Proc.devRef .tc b : DevRef τ sig).isScoped = false →
      r.2.mem ((c.tc : Thread nD τ).loc b) = finalContents condOps preI bodyI postI 2048 m c (Proc.devRef .tc b))
    (c : Dev nD) (b : Ref sig .tc) (hs : (Proc.devRef .tc b : DevRef τ sig).isScoped = false)
    (hf : b ∉ writtenFirst) (ht : b ∉ writtenTrip) (hl : b ∉ writtenLast) :
    r.2.mem ((c.tc : Thread nD τ).loc b) = m ((c.tc : Thread nD τ).loc b) :=
  (h c b hs).trans (final_keep m c b hf ht hl)

theorem quiescent : Cert.quiescent_ReferenceIdeal (hReferenceIdeal := Cert.ReferenceIdeal.Gen.facts) := fun m ρ _ =>
  (θ_run Cert.ReferenceIdeal.defs _ _).mono (fun r h => ⟨fun c =>
    have k := args_keep m r h c
    ⟨k main_arg0 rfl (by decide) (by decide) (by decide), k main_arg1 rfl (by decide) (by decide) (by decide),
     k main_arg2 rfl (by decide) (by decide) (by decide), k main_arg3 rfl (by decide) (by decide) (by decide),
     k main_arg4 rfl (by decide) (by decide) (by decide), k main_arg5 rfl (by decide) (by decide) (by decide),
     k main_arg6 rfl (by decide) (by decide) (by decide), k main_arg7 rfl (by decide) (by decide) (by decide),
     k main_arg8 rfl (by decide) (by decide) (by decide), k main_arg9 rfl (by decide) (by decide) (by decide),
     k main_arg10 rfl (by decide) (by decide) (by decide), k main_arg11 rfl (by decide) (by decide) (by decide)⟩,
    Idealize.ShloMosaic.sem_eq_zero_of_no_sems (by decide) r.2⟩) (run_fold (F := Ideal) m ρ)

end Cert.ReferenceIdeal.Hand
-- ==== Proof.Ref.Stages.lean ====
module

public import proofs.«01_k».proof.Proof.Gen.ReferenceIdeal.Run
public import proofs.«01_k».proof.Proof.Gen.ReferenceIdeal
public import proofs.«01_k».proof.Proof.Math.Layer
public import Idealize.ShloMosaic.Lib.StableHlo.ReadAt

@[expose] public section

set_option maxRecDepth 16384

/-! The reference before its loop, stretch by stretch, over the extended reals: what each stretch leaves, element by
    element, in the layer's own quantities. -/

noncomputable section

namespace Cert.ReferenceIdeal.Hand

open Cert.ReferenceIdeal.Gen Cert.ReferenceIdeal.Value Cert.Layer
open Idealize.ShloMosaic Idealize.ShloMosaic.TcCoe Idealize.ShloMosaic.StableHlo Idealize.SL.Sem

variable (W : Weights) (X : Fin 2 → ℕ → Fin 1024 → EReal) (V : Valuation τ sig (Elt Ideal))

/-- The arguments hold the weights `W` and the two sequences `X`. -/
structure Args : Prop where
  xs : ∀ (b : Fin 2) (l : Fin 2048) (k : Fin 1024), V (Proc.devRef .tc main_arg0) (ix3 b l k) = X b l.val k
  nw : ∀ k : Fin 1024, V (Proc.devRef .tc main_arg2) (ix1 k) = W.nw k
  win : ∀ (k : Fin 1024) (e : Fin 4096), V (Proc.devRef .tc main_arg3) (ix2 k e) = W.win k e
  cw : ∀ (d : Fin 2048) (k : Fin 4), V (Proc.devRef .tc main_arg4) (ix2 d k) = W.cw d k
  cb : ∀ d : Fin 2048, V (Proc.devRef .tc main_arg5) (ix1 d) = W.cb d
  wx : ∀ (d : Fin 2048) (e : Fin 96), V (Proc.devRef .tc main_arg6) (ix2 d e) = W.wx d e
  wdt : ∀ (k : Fin 64) (d : Fin 2048), V (Proc.devRef .tc main_arg7) (ix2 k d) = W.wdt k d
  dtb : ∀ d : Fin 2048, V (Proc.devRef .tc main_arg8) (ix1 d) = W.dtb d
  al : ∀ (d : Fin 2048) (n : Fin 16), V (Proc.devRef .tc main_arg9) (ix2 d n) = W.al d n
  dD : ∀ d : Fin 2048, V (Proc.devRef .tc main_arg10) (ix1 d) = W.dD d
  wout : ∀ (d : Fin 2048) (k : Fin 1024), V (Proc.devRef .tc main_arg11) (ix2 d k) = W.wout d k

variable {W X V}

/-- Contents that agree at the arguments hold the same weights and sequences. -/
theorem Args.of_eq {V' : Valuation τ sig (Elt Ideal)} (h : Args W X V)
    (e : ∀ b ∈ [main_arg0, main_arg2, main_arg3, main_arg4, main_arg5, main_arg6, main_arg7, main_arg8, main_arg9, main_arg10, main_arg11],
      V' (Proc.devRef .tc b) = V (Proc.devRef .tc b)) : Args W X V' where
  xs := by rw [e main_arg0 (by decide)]; exact h.xs
  nw := by rw [e main_arg2 (by decide)]; exact h.nw
  win := by rw [e main_arg3 (by decide)]; exact h.win
  cw := by rw [e main_arg4 (by decide)]; exact h.cw
  cb := by rw [e main_arg5 (by decide)]; exact h.cb
  wx := by rw [e main_arg6 (by decide)]; exact h.wx
  wdt := by rw [e main_arg7 (by decide)]; exact h.wdt
  dtb := by rw [e main_arg8 (by decide)]; exact h.dtb
  al := by rw [e main_arg9 (by decide)]; exact h.al
  dD := by rw [e main_arg10 (by decide)]; exact h.dD
  wout := by rw [e main_arg11 (by decide)]; exact h.wout

/-- A stretch that writes no argument keeps them all. -/
theorem Args.after {ops : List (HloOp τ sig (Elt Ideal))} {L : List (Ref sig .tc)} (h : Args W X V)
    (hw : ops.Forall fun op => op.writes ⊆ (L.map (Proc.devRef (τ := τ) .tc)).toFinset)
    (hL : ∀ b ∈ [main_arg0, main_arg2, main_arg3, main_arg4, main_arg5, main_arg6, main_arg7, main_arg8, main_arg9, main_arg10, main_arg11], b ∉ L) :
    Args W X (after ops V) :=
  h.of_eq fun b hb => after_of_writes_sub _ _ hw (hL b hb)

/-- The left half of the projection. -/
theorem left_at (h : Args W X V) (b : Fin 2) (l d : Fin 2048) :
    StableHlo.after hostOps0 V (Proc.devRef .tc main_v14) (ix3 b l d) = proj W (X b l.val) ⟨d.val, by omega⟩ := by
  after_reads_at
  simp only [h.xs, h.nw, h.win]
  rfl

/-- The right half of the projection. -/
theorem right_at (h : Args W X V) (b : Fin 2) (l d : Fin 2048) :
    StableHlo.after hostOps0 V (Proc.devRef .tc main_v15) (ix3 b l d) = gate W (X b) l.val d := by
  after_reads_at
  simp only [h.xs, h.nw, h.win]
  rfl

/-- The padding number. -/
theorem padding_at (y : S_.Idx) : StableHlo.after hostOps0 V (Proc.devRef .tc main_c) y = (0#32 : BitVec 32) := by
  after_reads_at

/-- The left half padded in front: three rows of zeros, then the projection. -/
theorem padded_at (hl : ∀ (b : Fin 2) (l d : Fin 2048), V (Proc.devRef .tc main_v14) (ix3 b l d) = proj W (X b l.val) ⟨d.val, by omega⟩)
    (hc : ∀ y, V (Proc.devRef .tc main_c) y = (0#32 : BitVec 32)) (b : Fin 2) (p : Fin 2051) (d : Fin 2048) :
    StableHlo.after hostOps0_1 V (Proc.devRef .tc main_v16) (ix3 b p d) = past W (X b) p.val d := by
  have hp := p.isLt
  after_reads_at
  rw [past]
  split
  · rename_i h
    rw [if_neg (show ¬ p.val < 3 by omega), hl]
  · rw [if_pos (show p.val < 3 by omega), hc]
    simp [FloatOps.sitofp]

theorem bias_first (p q r s t : EReal) : p + q + r + s + t = t + p + q + r + s := by ac_rfl

/-- The convolution. -/
theorem conv_at (h : Args W X V) (hp : ∀ (b : Fin 2) (p : Fin 2051) (d : Fin 2048), V (Proc.devRef .tc main_v16) (ix3 b p d) = past W (X b) p.val d)
    (b : Fin 2) (l d : Fin 2048) : StableHlo.after hostOps0_2 V (Proc.devRef .tc main_v48) (ix3 b l d) = conv W (X b) l.val d := by
  after_reads_at
  simp only [hp, h.cw, h.cb, conv, Nat.add_comm 1, Nat.add_comm 2, Nat.add_comm 3]
  exact bias_first _ _ _ _ _

/-- The activated convolution. -/
theorem drive_at (hc : ∀ (b : Fin 2) (l d : Fin 2048), V (Proc.devRef .tc main_v48) (ix3 b l d) = conv W (X b) l.val d)
    (b : Fin 2) (l d : Fin 2048) : StableHlo.after hostOps0_3 V (Proc.devRef .tc main_v49) (ix3 b l d) = drive W (X b) l.val d := by
  after_reads_at
  simp only [hc]
  rfl

section Drive
variable (h : Args W X V) (hd : ∀ (b : Fin 2) (l d : Fin 2048), V (Proc.devRef .tc main_v49) (ix3 b l d) = drive W (X b) l.val d)
include h hd

/-- The step size before its softplus. -/
theorem raw_at (b : Fin 2) (l d : Fin 2048) : StableHlo.after hostOps0_4 V (Proc.devRef .tc main_v57) (ix3 b l d)
    = (∑ k : Fin 64, cols W (X b) l.val ⟨k.val, by omega⟩ * W.wdt k d) + W.dtb d := by
  after_reads_at
  simp only [hd, h.wx, h.wdt, h.dtb]
  rfl

/-- The input columns. -/
theorem inCol_at (b : Fin 2) (l : Fin 2048) (n : Fin 16) :
    StableHlo.after hostOps0_4 V (Proc.devRef .tc main_v52) (ix3 b l n) = inCol W (X b) l.val n := by
  after_reads_at
  simp only [hd, h.wx]
  rfl

/-- The output columns. -/
theorem outCol_at (b : Fin 2) (l : Fin 2048) (n : Fin 16) :
    StableHlo.after hostOps0_4 V (Proc.devRef .tc main_v53) (ix3 b l n) = outCol W (X b) l.val n := by
  after_reads_at
  simp only [hd, h.wx]
  rfl
end Drive

/-- The step sizes. -/
theorem step_at (hr : ∀ (b : Fin 2) (l d : Fin 2048), V (Proc.devRef .tc main_v57) (ix3 b l d)
      = (∑ k : Fin 64, cols W (X b) l.val ⟨k.val, by omega⟩ * W.wdt k d) + W.dtb d) (b : Fin 2) (l d : Fin 2048) :
    StableHlo.after hostOps0_5 V (Proc.devRef .tc main_v58) (ix3 b l d) = step W (X b) l.val d := by
  after_reads_at
  simp only [hr]
  rw [if_neg (fun h => h rfl), step, soft, zero_sub]

/-- Before the loop, in the loop's own buffers: time leads, so that a trip takes one row. -/
theorem steps_at (hs : ∀ (b : Fin 2) (l d : Fin 2048), V (Proc.devRef .tc main_v58) (ix3 b l d) = step W (X b) l.val d) (l : Fin 2048) (b : Fin 2) (d : Fin 2048) :
    StableHlo.after hostOps0_6 V (Proc.devRef .tc main_v67_0) (ix3 l b d) = step W (X b) l.val d := by
  after_reads_at
  pointwise [id]
  exact hs b l d

theorem inRows_at (hs : ∀ (b : Fin 2) (l : Fin 2048) (n : Fin 16), V (Proc.devRef .tc main_v52) (ix3 b l n) = inCol W (X b) l.val n) (l : Fin 2048) (b : Fin 2) (n : Fin 16) :
    StableHlo.after hostOps0_6 V (Proc.devRef .tc main_v67_1) (ix3 l b n) = inCol W (X b) l.val n := by
  after_reads_at
  pointwise [id]
  exact hs b l n

theorem outRows_at (hs : ∀ (b : Fin 2) (l : Fin 2048) (n : Fin 16), V (Proc.devRef .tc main_v53) (ix3 b l n) = outCol W (X b) l.val n) (l : Fin 2048) (b : Fin 2) (n : Fin 16) :
    StableHlo.after hostOps0_6 V (Proc.devRef .tc main_v67_2) (ix3 l b n) = outCol W (X b) l.val n := by
  after_reads_at
  pointwise [id]
  exact hs b l n

theorem driveRows_at (hs : ∀ (b : Fin 2) (l d : Fin 2048), V (Proc.devRef .tc main_v49) (ix3 b l d) = drive W (X b) l.val d) (l : Fin 2048) (b : Fin 2) (d : Fin 2048) :
    StableHlo.after hostOps0_6 V (Proc.devRef .tc main_v67_3) (ix3 l b d) = drive W (X b) l.val d := by
  after_reads_at
  pointwise [id]
  exact hs b l d

/-- The decay rates, and the state's zeros. -/
theorem rates_at (h : Args W X V) (d : Fin 2048) (n : Fin 16) :
    StableHlo.after hostOps0_6 V (Proc.devRef .tc main_v67_4) (ix2 d n) = 0 - Ideal.exp (W.al d n) := by
  after_reads_at
  pointwise [id]
  rw [h.al, zero_sub]

theorem zeros_at (b : Fin 2) (d : Fin 2048) (n : Fin 16) : StableHlo.after hostOps0_6 V (Proc.devRef .tc main_v67_6) (ix3 b d n) = (0 : EReal) := by
  after_reads_at
  pointwise [id]

end Cert.ReferenceIdeal.Hand
-- ==== Proof.Ref.Trip.lean ====
module

public import proofs.«01_k».proof.Proof.Gen.ReferenceIdeal.Run
public import proofs.«01_k».proof.Proof.Gen.ReferenceIdeal
public import proofs.«01_k».proof.Proof.Math.Layer
public import Idealize.ShloMosaic.Lib.StableHlo.ReadAt
public import Idealize.ShloMosaic.Lib.WordArith.Masks

@[expose] public section

set_option maxRecDepth 16384

/-! One trip of the reference's loop over the extended reals, read at an element: trip `p` takes row `p` of the step sizes,
    of the two columns and of the driving rows, steps the state, and puts the read-out at row `p`. -/

noncomputable section

namespace Cert.ReferenceIdeal.Hand

open Cert.ReferenceIdeal.Gen Cert.ReferenceIdeal.Value
open Idealize.ShloMosaic Idealize.ShloMosaic.TcCoe Idealize.ShloMosaic.StableHlo Idealize.SL.Sem

section Rows
variable (s : Fin 3 → ℤ) (p : Fin 2048) (h0 : s 0 = p.val) (h1 : s 1 = 0) (h2 : s 2 = 0)
include h0 h1 h2

/-- A slice of one row, its leading axis dropped, is that row. -/
theorem row_at (x : Vec Ideal S2048x2x2048 .f32) (b : Fin 2) (d : Fin 2048) :
    shapeCast S2x2048 (Host.dynamicSlice S1x2x2048 x s sliceFits_S2048x2x2048_S1x2x2048) shapeCasts_S1x2x2048_S2x2048 (ix2 b d) = x (ix3 p b d) := by
  have hp := p.isLt
  pointwise []
  congr 1
  funext a
  apply Fin.ext
  match a with
  | ⟨0, _⟩ => show (min (max (s 0) 0) ((2048 - 1 : ℕ) : ℤ)).toNat = p.val; omega
  | ⟨1, _⟩ => show (min (max (s 1) 0) ((2 - 2 : ℕ) : ℤ)).toNat + b.val = b.val; omega
  | ⟨2, _⟩ => show (min (max (s 2) 0) ((2048 - 2048 : ℕ) : ℤ)).toNat + d.val = d.val; omega

theorem col_at (x : Vec Ideal S2048x2x16 .f32) (b : Fin 2) (n : Fin 16) :
    shapeCast S2x16 (Host.dynamicSlice S1x2x16 x s sliceFits_S2048x2x16_S1x2x16) shapeCasts_S1x2x16_S2x16 (ix2 b n) = x (ix3 p b n) := by
  have hp := p.isLt
  pointwise []
  congr 1
  funext a
  apply Fin.ext
  match a with
  | ⟨0, _⟩ => show (min (max (s 0) 0) ((2048 - 1 : ℕ) : ℤ)).toNat = p.val; omega
  | ⟨1, _⟩ => show (min (max (s 1) 0) ((2 - 2 : ℕ) : ℤ)).toNat + b.val = b.val; omega
  | ⟨2, _⟩ => show (min (max (s 2) 0) ((16 - 16 : ℕ) : ℤ)).toNat + n.val = n.val; omega

/-- An update of one row changes that row only. -/
theorem put_at (y : Vec Ideal S2048x2x2048 .f32) (u : Vec Ideal S2x2048 .f32) (l : Fin 2048) (b : Fin 2) (d : Fin 2048) :
    Host.dynamicUpdateSlice y (broadcastInDim S1x2x2048 ![1, 2] bcast_S2x2048_S1x2x2048_1_2 u) s updateFits_S2048x2x2048_S1x2x2048 (ix3 l b d)
      = if l = p then u (ix2 b d) else y (ix3 l b d) := by
  have hp := p.isLt
  have e0 : Host.clampedStart S2048x2x2048 S1x2x2048 updateFits_S2048x2x2048_S1x2x2048.1 s 0 = p.val := by
    show (min (max (s 0) 0) ((2048 - 1 : ℕ) : ℤ)).toNat = p.val; omega
  have e1 : Host.clampedStart S2048x2x2048 S1x2x2048 updateFits_S2048x2x2048_S1x2x2048.1 s 1 = 0 := by
    show (min (max (s 1) 0) ((2 - 2 : ℕ) : ℤ)).toNat = 0; omega
  have e2 : Host.clampedStart S2048x2x2048 S1x2x2048 updateFits_S2048x2x2048_S1x2x2048.1 s 2 = 0 := by
    show (min (max (s 2) 0) ((2048 - 2048 : ℕ) : ℤ)).toNat = 0; omega
  pointwise []
  split
  · rename_i h
    have hl : l = p := by
      obtain ⟨⟨ha, hb⟩, -⟩ := h
      exact Fin.ext (by omega)
    rw [if_pos hl]
    congr 1
    funext a
    apply Fin.ext
    match a with
    | ⟨0, _⟩ => show b.val - _ = b.val; omega
    | ⟨1, _⟩ => show d.val - _ = d.val; omega
  · rename_i h
    rw [if_neg]
    rintro rfl
    exact h ⟨⟨by omega, by omega⟩, by omega, by omega⟩
end Rows

/-- The state's update from the rows of a trip. -/
def nextState (dt : Vec Ideal S2x2048 .f32) (A : Vec Ideal S2048x16 .f32) (h : Vec Ideal S2x2048x16 .f32) (B : Vec Ideal S2x16 .f32)
    (u : Vec Ideal S2x2048 .f32) : FVec Ideal S2x2048x16 .f32 :=
  addf (mulf (Host.exp (mulf (broadcastInDim S2x2048x16 ![0, 1, 2] bcast_S2x2048x1_S2x2048x16_0_1_2 (broadcastInDim S2x2048x1 ![0, 1] bcast_S2x2048_S2x2048x1_0_1 dt))
      (broadcastInDim S2x2048x16 ![0, 1, 2] bcast_S1x2048x16_S2x2048x16_0_1_2 (broadcastInDim S1x2048x16 ![1, 2] bcast_S2048x16_S1x2048x16_1_2 A)))) h)
    (mulf (mulf (broadcastInDim S2x2048x16 ![0, 1, 2] bcast_S2x2048x1_S2x2048x16_0_1_2 (broadcastInDim S2x2048x1 ![0, 1] bcast_S2x2048_S2x2048x1_0_1 dt))
        (broadcastInDim S2x2048x16 ![0, 1, 2] bcast_S2x1x16_S2x2048x16_0_1_2 (broadcastInDim S2x1x16 ![0, 2] bcast_S2x16_S2x1x16_0_2 B)))
      (broadcastInDim S2x2048x16 ![0, 1, 2] bcast_S2x2048x1_S2x2048x16_0_1_2 (broadcastInDim S2x2048x1 ![0, 1] bcast_S2x2048_S2x2048x1_0_1 u)))

theorem nextState_at (dt : Vec Ideal S2x2048 .f32) (A : Vec Ideal S2048x16 .f32) (h : Vec Ideal S2x2048x16 .f32) (B : Vec Ideal S2x16 .f32)
    (u : Vec Ideal S2x2048 .f32) (b : Fin 2) (d : Fin 2048) (n : Fin 16) :
    nextState dt A h B u (ix3 b d n)
      = Ideal.exp (dt (ix2 b d) * A (ix2 d n)) * h (ix3 b d n) + dt (ix2 b d) * B (ix2 b n) * u (ix2 b d) := by
  pointwise [nextState]

/-- The state read out by the trip's output column. -/
theorem readOut_at (h : Vec Ideal S2x2048x16 .f32) (C : Vec Ideal S2x16 .f32) (b : Fin 2) (d : Fin 2048) :
    Host.dotGeneral (F := Ideal) (φ₁ := .f32) (φ₂ := .f32) dot_S2x2048x16_S2x16_S2x2048_2_1_1_n_0_0 none h C (ix2 b d) = ∑ n, h (ix3 b d n) * C (ix2 b n) := by
  pointwise []

section Trip
variable (V : Valuation τ sig (Elt Ideal)) (p : Fin 2048) (hV : V (Proc.devRef .tc main_v67_5) = fun _ => Scf.iv 0#32 1#32 p.val)
include hV

/-- Where a trip's slices start. -/
theorem start_rows : ∀ s : Fin 3 → ℤ, (s = fun k => (((![V (Proc.devRef .tc main_v67_5), constantI S_ 32 0#32, constantI S_ 32 0#32] : Fin 3 → (⟨S_, .i32⟩ : BufTy).Contents (Elt Ideal))) k (Shape.Idx.first h_S_)).toInt)
    → s 0 = p.val ∧ s 1 = 0 ∧ s 2 = 0 := by
  have hp := p.isLt
  rintro s rfl
  refine ⟨?_, rfl, rfl⟩
  show (V (Proc.devRef .tc main_v67_5) (Shape.Idx.first h_S_)).toInt = p.val
  rw [hV]
  show (Scf.iv 0#32 1#32 p.val).toInt = p.val
  have e : (Scf.iv 0#32 1#32 p.val).toNat = p.val := WordArith.toNat_iv_zero_one p.val (by omega)
  rw [BitVec.toInt_eq_toNat_of_lt (by omega), e]

/-- The state after a trip. -/
theorem state_trip (b : Fin 2) (d : Fin 2048) (n : Fin 16) {δ α σ β υ : EReal}
    (hδ : V (Proc.devRef .tc main_v67_0) (ix3 p b d) = δ) (hα : V (Proc.devRef .tc main_v67_4) (ix2 d n) = α)
    (hσ : V (Proc.devRef .tc main_v67_6) (ix3 b d n) = σ) (hβ : V (Proc.devRef .tc main_v67_1) (ix3 p b n) = β)
    (hυ : V (Proc.devRef .tc main_v67_3) (ix3 p b d) = υ) :
    res_main_while0b_v96 (F := Ideal) V (ix3 b d n) = Ideal.exp (δ * α) * σ + δ * β * υ := by
  obtain ⟨h0, h1, h2⟩ := start_rows V p hV _ rfl
  refine (nextState_at (res_main_while0b_v77 V) (V (Proc.devRef .tc main_v67_4)) (V (Proc.devRef .tc main_v67_6)) _ _ b d n).trans ?_
  have e : res_main_while0b_v77 V (ix2 b d) = V (Proc.devRef .tc main_v67_0) (ix3 p b d) := row_at _ p h0 h1 h2 _ b d
  rw [e, col_at _ p h0 h1 h2, row_at _ p h0 h1 h2, hδ, hα, hσ, hβ, hυ]

/-- The rows read out after a trip: row `p` is the new state against the trip's column, the others are kept. -/
theorem rows_trip (l : Fin 2048) (b : Fin 2) (d : Fin 2048) {σ γ : Fin 16 → EReal} {η : EReal}
    (hσ : ∀ n, res_main_while0b_v96 (F := Ideal) V (ix3 b d n) = σ n) (hγ : ∀ n, V (Proc.devRef .tc main_v67_2) (ix3 p b n) = γ n)
    (hη : l ≠ p → V (Proc.devRef .tc main_v67_7) (ix3 l b d) = η) :
    step_main_v67_7 (F := Ideal) V (ix3 l b d) = if l = p then ∑ n, σ n * γ n else η := by
  obtain ⟨h0, h1, h2⟩ := start_rows V p hV _ rfl
  refine (put_at _ p h0 h1 h2 (V (Proc.devRef .tc main_v67_7)) _ l b d).trans ?_
  split
  · refine (readOut_at (res_main_while0b_v96 V) _ b d).trans (Finset.sum_congr rfl fun n _ => ?_)
    rw [col_at _ p h0 h1 h2, hσ, hγ]
  · rename_i h
    exact hη h
end Trip

end Cert.ReferenceIdeal.Hand
-- ==== Proof.Ref.Loop.lean ====
module

public import proofs.«01_k».proof.Proof.Ref.Keep
public import proofs.«01_k».proof.Proof.Ref.Stages
public import proofs.«01_k».proof.Proof.Ref.Trip

@[expose] public section

set_option maxRecDepth 16384

/-! The reference's loop: before trip `k` its buffers hold the layer's quantities, the state after `k` steps and the first
    `k` read-outs. -/

noncomputable section

namespace Cert.ReferenceIdeal.Hand

open Cert.ReferenceIdeal.Gen Cert.ReferenceIdeal.Value Cert.Layer
open Idealize.ShloMosaic Idealize.ShloMosaic.TcCoe Idealize.ShloMosaic.StableHlo Idealize.SL.Sem

variable (W : Weights) (X : Fin 2 → ℕ → Fin 1024 → EReal)

/-- What the loop's buffers hold before trip `k`. -/
structure Before (k : ℕ) (V : Valuation τ sig (Elt Ideal)) : Prop where
  steps : ∀ (l : Fin 2048) (b : Fin 2) (d : Fin 2048), V (Proc.devRef .tc main_v67_0) (ix3 l b d) = step W (X b) l.val d
  ins : ∀ (l : Fin 2048) (b : Fin 2) (n : Fin 16), V (Proc.devRef .tc main_v67_1) (ix3 l b n) = inCol W (X b) l.val n
  outs : ∀ (l : Fin 2048) (b : Fin 2) (n : Fin 16), V (Proc.devRef .tc main_v67_2) (ix3 l b n) = outCol W (X b) l.val n
  drives : ∀ (l : Fin 2048) (b : Fin 2) (d : Fin 2048), V (Proc.devRef .tc main_v67_3) (ix3 l b d) = drive W (X b) l.val d
  rates : ∀ (d : Fin 2048) (n : Fin 16), V (Proc.devRef .tc main_v67_4) (ix2 d n) = 0 - Ideal.exp (W.al d n)
  states : ∀ (b : Fin 2) (d : Fin 2048) (n : Fin 16), V (Proc.devRef .tc main_v67_6) (ix3 b d n) = state W (X b) k n d
  reads : ∀ (l : Fin 2048) (b : Fin 2) (d : Fin 2048), l.val < k → V (Proc.devRef .tc main_v67_7) (ix3 l b d) = read W (X b) l.val d

variable {W X}

/-- One trip moves the loop one step on. -/
theorem Before.next {p : Fin 2048} {V : Valuation τ sig (Elt Ideal)} (h : Before W X p.val V)
    (hV : V (Proc.devRef .tc main_v67_5) = fun _ => Scf.iv 0#32 1#32 p.val) : Before W X (p.val + 1) (STEP V) := by
  have hs : ∀ (b : Fin 2) (d : Fin 2048) (n : Fin 16), res_main_while0b_v96 (F := Ideal) V (ix3 b d n) = state W (X b) (p.val + 1) n d := fun b d n => by
    rw [state_trip V p hV b d n (h.steps p b d) (h.rates d n) (h.states b d n) (h.ins p b n) (h.drives p b d), state,
      mul_comm (step W (X b) p.val d) (inCol W (X b) p.val n), mul_assoc (inCol W (X b) p.val n)]
  constructor
  · rw [STEP_main_v67_0]; exact h.steps
  · rw [STEP_main_v67_1]; exact h.ins
  · rw [STEP_main_v67_2]; exact h.outs
  · rw [STEP_main_v67_3]; exact h.drives
  · rw [STEP_main_v67_4]; exact h.rates
  · rw [STEP_main_v67_6]; exact hs
  · intro l b d hl
    rw [STEP_main_v67_7, rows_trip V p hV l b d (fun n => hs b d n) (fun n => h.outs p b n)
      (fun hne => h.reads l b d (by have : l.val ≠ p.val := fun e => hne (Fin.ext e); omega))]
    split
    · rename_i e
      rw [e, Cert.Layer.read]
    · rfl

variable {m : (ℓ : Loc nD τ sig) → Buf (Elt Ideal) ℓ} {c : Dev nD}

/-- The loop's buffers before every trip, counted in iterated steps. -/
theorem before_iterate (h : Before W X 0 (entryContents preI m c)) : ∀ k, k ≤ 2048 → Before W X k (STEP^[k] (entryContents preI m c))
  | 0, _ => h
  | k + 1, hk => by
    rw [Function.iterate_succ_apply']
    have hV := (atK_agree m c k main_v67_5 (by decide)).symm.trans (atK_ctr m c k)
    exact (before_iterate h k (by omega)).next (p := ⟨k, by omega⟩) hV

/-- The read-outs at the loop's exit. -/
theorem exit_at (h : Before W X 0 (entryContents preI m c)) (l : Fin 2048) (b : Fin 2) (d : Fin 2048) :
    after condOps (atK m 2048 c) (Proc.devRef .tc main_v67_7) (ix3 l b d) = read W (X b) l.val d := by
  rw [after_of_writes_sub _ _ condOps_writes (by decide), atK_agree m c 2048 main_v67_7 (by decide)]
  exact (before_iterate h 2048 le_rfl).reads l b d l.isLt

/-- A stretch keeps the elements of a buffer it does not write. -/
theorem keep_at {ops : List (HloOp τ sig (Elt Ideal))} {L : List (Ref sig .tc)} {V : Valuation τ sig (Elt Ideal)}
    (hw : ops.Forall fun op => op.writes ⊆ (L.map (Proc.devRef (τ := τ) .tc)).toFinset) (r : Ref sig .tc) (hr : r ∉ L)
    {α β γ : Type} {i : α → β → γ → (Proc.devRef .tc r : DevRef τ sig).ty.shape.Idx} {f : α → β → γ → Elt Ideal (Proc.devRef .tc r : DevRef τ sig).ty.elt}
    (h : ∀ a b c, V (Proc.devRef .tc r) (i a b c) = f a b c) (a : α) (b : β) (c : γ) : after ops V (Proc.devRef .tc r) (i a b c) = f a b c := by
  rw [after_of_writes_sub _ V hw hr]
  exact h a b c

/-- What the seven stretches before the loop leave: the loop's buffers, and the arrays that are used again after the loop. -/
theorem entry_of {V0 V1 V2 V3 V4 V5 V6 V7 : Valuation τ sig (Elt Ideal)} (ha : Args W X V0)
    (e1 : after hostOps0 V0 = V1) (e2 : after hostOps0_1 V1 = V2) (e3 : after hostOps0_2 V2 = V3) (e4 : after hostOps0_3 V3 = V4)
    (e5 : after hostOps0_4 V4 = V5) (e6 : after hostOps0_5 V5 = V6) (e7 : after hostOps0_6 V6 = V7) : Before W X 0 V7
    ∧ (∀ (b : Fin 2) (l d : Fin 2048), V7 (Proc.devRef .tc main_v49) (ix3 b l d) = drive W (X b) l.val d)
    ∧ (∀ (b : Fin 2) (l d : Fin 2048), V7 (Proc.devRef .tc main_v15) (ix3 b l d) = gate W (X b) l.val d)
    ∧ Args W X V7 := by
  have h14 := left_at ha
  have h15 := right_at ha
  have hc := padding_at (V := V0)
  have a := ha.after hostOps0_writes (by decide)
  simp only [e1] at h14 h15 hc a
  have h16 := padded_at h14 hc
  replace h15 := keep_at hostOps0_1_writes main_v15 (by decide) h15
  replace a := a.after hostOps0_1_writes (by decide)
  simp only [e2] at h15 h16 a
  have h48 := conv_at a h16
  replace h15 := keep_at hostOps0_2_writes main_v15 (by decide) h15
  replace a := a.after hostOps0_2_writes (by decide)
  simp only [e3] at h15 h48 a
  have h49 := drive_at h48
  replace h15 := keep_at hostOps0_3_writes main_v15 (by decide) h15
  replace a := a.after hostOps0_3_writes (by decide)
  simp only [e4] at h15 h49 a
  have h57 := raw_at a h49
  have h52 := inCol_at a h49
  have h53 := outCol_at a h49
  replace h15 := keep_at hostOps0_4_writes main_v15 (by decide) h15
  replace h49 := keep_at hostOps0_4_writes main_v49 (by decide) h49
  replace a := a.after hostOps0_4_writes (by decide)
  simp only [e5] at h15 h49 h57 h52 h53 a
  have h58 := step_at h57
  replace h15 := keep_at hostOps0_5_writes main_v15 (by decide) h15
  replace h49 := keep_at hostOps0_5_writes main_v49 (by decide) h49
  replace h52 := keep_at hostOps0_5_writes main_v52 (by decide) h52
  replace h53 := keep_at hostOps0_5_writes main_v53 (by decide) h53
  replace a := a.after hostOps0_5_writes (by decide)
  simp only [e6] at h15 h49 h58 h52 h53 a
  subst e7
  exact ⟨⟨steps_at h58, inRows_at h52, outRows_at h53, driveRows_at h49, rates_at a, zeros_at, fun _ _ _ h => absurd h (Nat.not_lt_zero _)⟩,
    keep_at hostOps0_6_writes main_v49 (by decide) h49, keep_at hostOps0_6_writes main_v15 (by decide) h15, a.after hostOps0_6_writes (by decide)⟩

/-- What the loop is entered with. -/
theorem entry (ha : Args W X (launchContents m c)) : Before W X 0 (entryContents preI m c)
    ∧ (∀ (b : Fin 2) (l d : Fin 2048), entryContents preI m c (Proc.devRef .tc main_v49) (ix3 b l d) = drive W (X b) l.val d)
    ∧ (∀ (b : Fin 2) (l d : Fin 2048), entryContents preI m c (Proc.devRef .tc main_v15) (ix3 b l d) = gate W (X b) l.val d)
    ∧ Args W X (entryContents preI m c) :=
  entry_of ha rfl rfl rfl rfl rfl rfl rfl

end Cert.ReferenceIdeal.Hand
-- ==== Proof.Ref.Result.lean ====
module

public import proofs.«01_k».proof.Proof.Ref.Loop

@[expose] public section

set_option maxRecDepth 16384

/-! The reference after its loop, and the result it leaves: the layer's. -/

noncomputable section

namespace Cert.ReferenceIdeal.Hand

open Cert.ReferenceIdeal.Gen Cert.ReferenceIdeal.Value Cert.Layer
open Idealize.ShloMosaic Idealize.ShloMosaic.TcCoe Idealize.ShloMosaic.StableHlo Idealize.SL.Sem

section Last
variable {W : Weights} {X : Fin 2 → ℕ → Fin 1024 → EReal} {V : Valuation τ sig (Elt Ideal)}

/-- The read-out with the skip term. -/
theorem mixed_at (h : Args W X V) (hr : ∀ (l : Fin 2048) (b : Fin 2) (d : Fin 2048), V (Proc.devRef .tc main_v67_7) (ix3 l b d) = Layer.read W (X b) l.val d)
    (hd : ∀ (b : Fin 2) (l d : Fin 2048), V (Proc.devRef .tc main_v49) (ix3 b l d) = drive W (X b) l.val d) (b : Fin 2) (l d : Fin 2048) :
    StableHlo.after hostOps0_7 V (Proc.devRef .tc main_v72) (ix3 b l d) = Layer.read W (X b) l.val d + drive W (X b) l.val d * W.dD d := by
  after_reads_at
  simp only [hr, hd, h.dD]

/-- The activated gate. -/
theorem gated_at (hg : ∀ (b : Fin 2) (l d : Fin 2048), V (Proc.devRef .tc main_v15) (ix3 b l d) = gate W (X b) l.val d) (b : Fin 2) (l d : Fin 2048) :
    StableHlo.after hostOps0_8 V (Proc.devRef .tc main_v73) (ix3 b l d) = silu (gate W (X b) l.val d) := by
  after_reads_at
  simp only [hg]
  rfl

/-- The output projection and the residual. -/
theorem out_at (h : Args W X V)
    (hm : ∀ (b : Fin 2) (l d : Fin 2048), V (Proc.devRef .tc main_v72) (ix3 b l d) = Layer.read W (X b) l.val d + drive W (X b) l.val d * W.dD d)
    (hg : ∀ (b : Fin 2) (l d : Fin 2048), V (Proc.devRef .tc main_v73) (ix3 b l d) = silu (gate W (X b) l.val d)) (b : Fin 2) (l : Fin 2048) (k : Fin 1024) :
    StableHlo.after hostOps0_9 V (Proc.devRef .tc main_v76) (ix3 b l k) = out W (X b) l.val k := by
  after_reads_at
  simp only [h.xs, h.wout, hm, hg]
  rfl

/-- The three stretches after the loop together. -/
theorem last_of {V1 V2 V3 : Valuation τ sig (Elt Ideal)} (h : Args W X V)
    (hr : ∀ (l : Fin 2048) (b : Fin 2) (d : Fin 2048), V (Proc.devRef .tc main_v67_7) (ix3 l b d) = Layer.read W (X b) l.val d)
    (hd : ∀ (b : Fin 2) (l d : Fin 2048), V (Proc.devRef .tc main_v49) (ix3 b l d) = drive W (X b) l.val d)
    (hg : ∀ (b : Fin 2) (l d : Fin 2048), V (Proc.devRef .tc main_v15) (ix3 b l d) = gate W (X b) l.val d)
    (e1 : after hostOps0_7 V = V1) (e2 : after hostOps0_8 V1 = V2) (e3 : after hostOps0_9 V2 = V3) (b : Fin 2) (l : Fin 2048) (k : Fin 1024) :
    V3 (Proc.devRef .tc main_v76) (ix3 b l k) = out W (X b) l.val k := by
  have hm := mixed_at h hr hd
  replace hg := keep_at last_writes7 main_v15 (by decide) hg
  have a := h.after last_writes7 (by decide)
  simp only [e1] at hm hg a
  have hz := gated_at hg
  have w8 : (hostOps0_8 : List (HloOp τ sig (Elt Ideal))).Forall fun op => op.writes ⊆ (List.map (Proc.devRef (τ := τ) .tc)
      [main_call8_v0, main_call8_v1, main_call8_cst, main_call8_v2, main_call8_v3, main_call8_cst_0, main_call8_v4, main_call8_v5, main_v73]).toFinset :=
    forall_writes_sub_of_map rfl
  replace hm := keep_at w8 main_v72 (by decide) hm
  replace a := a.after w8 (by decide)
  simp only [e2] at hm hz a
  subst e3
  exact out_at a hm hz b l k
end Last

variable {W : Weights} {X : Fin 2 → ℕ → Fin 1024 → EReal} (m : (ℓ : Loc nD τ sig) → Buf (Elt Ideal) ℓ) (c : Dev nD)

/-- The result's elements at the end. -/
theorem final_at (ha : Args W X (launchContents m c)) (b : Fin 2) (l : Fin 2048) (k : Fin 1024) :
    finalContents condOps preI bodyI postI 2048 m c (Proc.devRef .tc main_v76) (ix3 b l k) = out W (X b) l.val k := by
  obtain ⟨h0, hd, hg, a⟩ := entry ha
  have kd : ∀ (b : Fin 2) (l d : Fin 2048), after condOps (atK m 2048 c) (Proc.devRef .tc main_v49) (ix3 b l d) = drive W (X b) l.val d := fun b l d =>
    (congrFun (exit_keep (entryContents preI m) c main_v49 (by decide) 2048) _).trans (hd b l d)
  have kg : ∀ (b : Fin 2) (l d : Fin 2048), after condOps (atK m 2048 c) (Proc.devRef .tc main_v15) (ix3 b l d) = gate W (X b) l.val d := fun b l d =>
    (congrFun (exit_keep (entryContents preI m) c main_v15 (by decide) 2048) _).trans (hg b l d)
  have ka : Args W X (after condOps (atK m 2048 c)) := a.of_eq fun r hr =>
    exit_keep (entryContents preI m) c r ((by decide : ∀ r ∈ [main_arg0, main_arg2, main_arg3, main_arg4, main_arg5, main_arg6, main_arg7, main_arg8, main_arg9, main_arg10, main_arg11], r ∉ writtenTrip) r hr) 2048
  exact last_of ka (exit_at h0) kd kg rfl rfl rfl b l k

/-- The layer's result from the arguments at the run's start. -/
def res : Vec Ideal S2x2048x1024 .f32 :=
  result (weightsOf (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11))) (m ((c.tc : Thread nD τ).loc main_arg0))

/-- The result at the end is the layer's. -/
theorem final_res : finalContents condOps preI bodyI postI 2048 m c (Proc.devRef .tc main_v76) = res m c := by
  funext y
  rw [eq_ix3 y]
  refine final_at m c (X := rowsOf (m ((c.tc : Thread nD τ).loc main_arg0))) ⟨fun b l k => ?_, fun _ => rfl, fun _ _ => rfl, fun _ _ => rfl, fun _ => rfl, fun _ _ => rfl, fun _ _ => rfl, fun _ => rfl,
    fun _ _ => rfl, fun _ => rfl, fun _ _ => rfl⟩ (y 0) (y 1) (y 2)
  rw [rowsOf, Fin.ofNat_eq_cast, Fin.cast_val_eq_self]

/-- The reference's run: its result is the layer's, and it leaves its arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v76) = res m c
    ∧ ∀ b ∈ [main_arg0, main_arg1, main_arg2, main_arg3, main_arg4, main_arg5, main_arg6, main_arg7, main_arg8, main_arg9, main_arg10, main_arg11],
      r.2.mem ((c.tc : Thread nD τ).loc b) = m ((c.tc : Thread nD τ).loc b) :=
  (θ_run defs _ _).mono (fun r h c => ⟨(h c main_v76 rfl).trans (final_res m c), fun b hb => by
    have k := (by decide : ∀ b ∈ [main_arg0, main_arg1, main_arg2, main_arg3, main_arg4, main_arg5, main_arg6, main_arg7, main_arg8, main_arg9, main_arg10, main_arg11],
      (Proc.devRef .tc b : DevRef τ sig).isScoped = false ∧ b ∉ writtenFirst ∧ b ∉ writtenTrip ∧ b ∉ writtenLast) b hb
    exact args_keep m r h c b k.1 k.2.1 k.2.2.1 k.2.2.2⟩) (run_fold (F := Ideal) m ρ)

end Cert.ReferenceIdeal.Hand
-- ==== Proof.lean ====
module

public import proofs.«01_k».proof.Defs
public import proofs.«01_k».proof.Proof.Scan.Word
public import proofs.«01_k».proof.Proof.Scan.Array
public import proofs.«01_k».proof.Proof.Ref.Result

@[expose] public section

noncomputable section

namespace Cert.Proof

open Idealize.ShloMosaic Idealize.SL.Sem

/-- Kernel and reference leave the same array: each leaves the layer's result (`Proof/Math/Layer.lean`) from its own
    arguments, and the arguments are equal. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Scan.res m c, Cert.KernelIdeal.Scan.run m g,
    (θ_run Cert.ReferenceIdeal.defs _ _).mono (fun r h c => ?_) (Cert.ReferenceIdeal.Hand.run m' g')⟩
  obtain ⟨hv, ha⟩ := h c
  refine ⟨hv.trans ?_, ha _ (by decide), ha _ (by decide), ha _ (by decide), ha _ (by decide), ha _ (by decide), ha _ (by decide),
    ha _ (by decide), ha _ (by decide), ha _ (by decide), ha _ (by decide), ha _ (by decide), ha _ (by decide)⟩
  obtain ⟨e0, -, e2, e3, e4, e5, e6, e7, e8, e9, e10, e11⟩ := hm c
  rw [Cert.ReferenceIdeal.Hand.res, e0, e2, e3, e4, e5, e6, e7, e8, e9, e10, e11]
  rfl

theorem claim : Cert.Claim :=
  ⟨Cert.Kernel.Gen.facts, Cert.KernelIdeal.Gen.facts, Cert.ReferenceIdeal.Gen.facts,
    Cert.Kernel.quiescent, fun m g _ => Cert.KernelIdeal.Scan.quiescent (F := Ideal) m g, Cert.ReferenceIdeal.Hand.quiescent, trivial, algebraic⟩

end Cert.Proof

end
